-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_within_clip_ClippedIdeal [hPre_within_clip_ClippedIdeal : Cert.Pre_within_clip_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_within_clip_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1)) (m ((c.tc : Thread Cert.ClippedIdeal.nD Cert.ClippedIdeal.τ).loc Cert.ClippedIdeal.main_arg2))).1 = (fun _ => 1#1)
    ∧ (Cert.Pre_within_clip_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1)) (m ((c.tc : Thread Cert.ClippedIdeal.nD Cert.ClippedIdeal.τ).loc Cert.ClippedIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2))
      ∧ r.2.sem = fun _ => 0)

def quiescent_ClippedIdeal_pre_within_clip_ClippedIdeal [hClippedIdeal : Cert.ClippedIdeal.Facts] [hPre_within_clip_ClippedIdeal : Cert.Pre_within_clip_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_within_clip_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![512, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 512]⟩ ⟨2, ![16384, 512]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_ClippedIdeal_pre_within_clip_KernelIdeal [hKernelIdeal : Cert.KernelIdeal.Facts] [hClippedIdeal : Cert.ClippedIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![512, 2048]⟩ ⟨2, ![512, 16384]⟩ 1 8 c (m' (((0 : Dev Cert.ClippedIdeal.nD).tc : Thread Cert.ClippedIdeal.nD Cert.ClippedIdeal.τ).loc Cert.ClippedIdeal.main_arg1))
      ∧ m ((c.tc : Thread Cert.KernelIdeal.nD Cert.KernelIdeal.τ).loc Cert.KernelIdeal.main_arg2) = Layout.block ⟨2, ![2048, 512]⟩ ⟨2, ![16384, 512]⟩ 0 8 c (m' (((0 : Dev Cert.ClippedIdeal.nD).tc : Thread Cert.ClippedIdeal.nD Cert.ClippedIdeal.τ).loc Cert.ClippedIdeal.main_arg2))) →
    ∃ (v0 : Buf (Elt Ideal) (((0 : Dev Cert.ClippedIdeal.nD).tc : Thread Cert.ClippedIdeal.nD Cert.ClippedIdeal.τ).loc Cert.ClippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v7) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2))

def Claim : Prop :=
  ∃ (hKernel : Cert.Kernel.Facts) (hKernelIdeal : Cert.KernelIdeal.Facts) (hReferenceIdeal : Cert.ReferenceIdeal.Facts) (hClippedIdeal : Cert.ClippedIdeal.Facts) (hPre_within_clip_KernelIdeal : Cert.Pre_within_clip_KernelIdeal.Facts) (hPre_within_clip_ClippedIdeal : Cert.Pre_within_clip_ClippedIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ClippedIdeal (hClippedIdeal := hClippedIdeal)
    ∧ quiescent_ClippedIdeal_pre_within_clip_ClippedIdeal (hClippedIdeal := hClippedIdeal) (hPre_within_clip_ClippedIdeal := hPre_within_clip_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_within_clip_KernelIdeal (hKernelIdeal := hKernelIdeal) (hClippedIdeal := hClippedIdeal) (hPre_within_clip_KernelIdeal := hPre_within_clip_KernelIdeal)
-- ==== Pre_within_clip_ClippedIdeal.lean ====
abbrev S4096x512 : Shape := ⟨2, ![4096, 512]⟩
abbrev S512x16384 : Shape := ⟨2, ![512, 16384]⟩
abbrev S16384x512 : Shape := ⟨2, ![16384, 512]⟩
abbrev S_ : Shape := ⟨0, ![]⟩
abbrev S4096 : Shape := ⟨1, ![4096]⟩
abbrev S16384 : Shape := ⟨1, ![16384]⟩

class Facts : Prop where
  reducesTo_S4096x512_S4096_d1 : S4096x512.ReducesTo [1] S4096
  h_S_ : 0 < S_.numel
  bcast_S_S4096 : S_.BroadcastsInDim S4096 (![] : Fin 0 → Fin S4096.rank)
  reducesTo_S512x16384_S16384_d0 : S512x16384.ReducesTo [0] S16384
  bcast_S_S16384 : S_.BroadcastsInDim S16384 (![] : Fin 0 → Fin S16384.rank)

variable [Facts]

def fn {F : FTy → Type} [FloatOps F] (main_arg0 : FVec F S4096x512 .f32) (main_arg1 : FVec F S512x16384 .f32) (main_arg2 : FVec F S16384x512 .f32) : IVec S4096 1 × IVec S16384 1 :=
  let main_v0 : FVec F S4096x512 .f32 := mulf main_arg0 main_arg0
  let main_cst : FVec F S_ .f32 := constant S_ .f32 0x00000000#32
  let main_v1 : FVec F S4096 .f32 := (fun x v => Host.reduceAdd x v reducesTo_S4096x512_S4096_d1 h_S_) main_v0 main_cst
  let main_cst_0 : FVec F S_ .f32 := constant S_ .f32 0x44E10000#32
  let main_v2 : FVec F S4096 .f32 := broadcastInDim S4096 ![] bcast_S_S4096 main_cst_0
  let main_v3 : IVec S4096 1 := cmpf .ole main_v1 main_v2
  let main_v4 : FVec F S512x16384 .f32 := mulf main_arg1 main_arg1
  let main_cst_1 : FVec F S_ .f32 := constant S_ .f32 0x00000000#32
  let main_v5 : FVec F S16384 .f32 := (fun x v => Host.reduceAdd x v reducesTo_S512x16384_S16384_d0 h_S_) main_v4 main_cst_1
  let main_cst_2 : FVec F S_ .f32 := constant S_ .f32 0x40000000#32
  let main_v6 : FVec F S16384 .f32 := broadcastInDim S16384 ![] bcast_S_S16384 main_cst_2
  let main_v7 : IVec S16384 1 := cmpf .ole main_v5 main_v6
  (main_v3, main_v7)
-- ==== Pre_within_clip_KernelIdeal.lean ====
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S512 : Shape := ⟨1, ![512]⟩
abbrev S2048 : Shape := ⟨1, ![2048]⟩

class Facts : Prop where
  reducesTo_S512x512_S512_d1 : S512x512.ReducesTo [1] S512
  h_S_ : 0 < S_.numel
  bcast_S_S512 : S_.BroadcastsInDim S512 (![] : Fin 0 → Fin S512.rank)
  reducesTo_S512x2048_S2048_d0 : S512x2048.ReducesTo [0] S2048
  bcast_S_S2048 : S_.BroadcastsInDim S2048 (![] : Fin 0 → Fin S2048.rank)

variable [Facts]

def fn {F : FTy → Type} [FloatOps F] (main_arg0 : FVec F S512x512 .f32) (main_arg1 : FVec F S512x2048 .f32) (main_arg2 : FVec F S2048x512 .f32) : IVec S512 1 × IVec S2048 1 :=
  let main_v0 : FVec F S512x512 .f32 := mulf main_arg0 main_arg0
  let main_cst : FVec F S_ .f32 := constant S_ .f32 0x00000000#32
  let main_v1 : FVec F S512 .f32 := (fun x v => Host.reduceAdd x v reducesTo_S512x512_S512_d1 h_S_) main_v0 main_cst
  let main_cst_0 : FVec F S_ .f32 := constant S_ .f32 0x44E10000#32
  let main_v2 : FVec F S512 .f32 := broadcastInDim S512 ![] bcast_S_S512 main_cst_0
  let main_v3 : IVec S512 1 := cmpf .ole main_v1 main_v2
  let main_v4 : FVec F S512x2048 .f32 := mulf main_arg1 main_arg1
  let main_cst_1 : FVec F S_ .f32 := constant S_ .f32 0x00000000#32
  let main_v5 : FVec F S2048 .f32 := (fun x v => Host.reduceAdd x v reducesTo_S512x2048_S2048_d0 h_S_) main_v4 main_cst_1
  let main_cst_2 : FVec F S_ .f32 := constant S_ .f32 0x40000000#32
  let main_v6 : FVec F S2048 .f32 := broadcastInDim S2048 ![] bcast_S_S2048 main_cst_2
  let main_v7 : IVec S2048 1 := cmpf .ole main_v5 main_v6
  (main_v3, main_v7)
-- ==== Kernel.lean ====
abbrev S512x512 : Shape := ⟨2, ![512, 512]⟩
abbrev S512x2048 : Shape := ⟨2, ![512, 2048]⟩
abbrev S2048x512 : Shape := ⟨2, ![2048, 512]⟩
abbrev S8x2x128x512 : Shape := ⟨4, ![8, 2, 128, 512]⟩
abbrev S7x2x128x512 : Shape := ⟨4, ![7, 2, 128, 512]⟩
abbrev S2x2x128x512 : Shape := ⟨4, ![2, 2, 128, 512]⟩
abbrev S7x2 : Shape := ⟨2, ![7, 2]⟩
abbrev S_ : Shape := ⟨0, ![]⟩
abbrev S128x512 : Shape := ⟨2, ![128, 512]⟩
abbrev S1x1x128x512 : Shape := ⟨4, ![1, 1, 128, 512]⟩
abbrev S1x1 : Shape := ⟨2, ![1, 1]⟩
abbrev S128x2048 : Shape := ⟨2, ![128, 2048]⟩
abbrev S256x512 : Shape := ⟨2, ![256, 512]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S2048x512, .f32⟩
  | .hbm, ⟨3, _⟩ => ⟨S512x512, .bf16⟩
  | .hbm, ⟨4, _⟩ => ⟨S512x2048, .bf16⟩
  | .hbm, ⟨5, _⟩ => ⟨S2048x512, .bf16⟩
  | .hbm, ⟨6, _⟩ => ⟨S512x512, .f32⟩
  | .local _ .vmem, ⟨0, _⟩ => ⟨S512x512, .bf16⟩
  | .local _ .vmem, ⟨1, _⟩ => ⟨S512x2048, .bf16⟩
  | .local _ .vmem, ⟨2, _⟩ => ⟨S2048x512, .bf16⟩
  | .local _ .vmem, ⟨3, _⟩ => ⟨S512x512, .f32⟩
  | .local _ .vmem, ⟨4, _⟩ => ⟨S8x2x128x512, .bf16⟩
  | .local _ .vmem, ⟨5, _⟩ => ⟨S8x2x128x512, .bf16⟩
  | .local _ .vmem, ⟨6, _⟩ => ⟨S7x2x128x512, .bf16⟩
  | .local _ .vmem, ⟨7, _⟩ => ⟨S7x2x128x512, .bf16⟩
  | .local _ .vmem, ⟨8, _⟩ => ⟨S2x2x128x512, .bf16⟩
  | .local _ .vmem, ⟨9, _⟩ => ⟨S2x2x128x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  (ofTc nBuf bufTy 1 116 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v15 : Index := Scalar.indexCast v2
  let c0_11 : Index := 0#32
  let c0_12 : Index := 0#32
  let c0_13 : Index := 0#32
  ![v15.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v21 : Index := Scalar.indexCast v2
  let c1 : Index := 1#32
  let c0_15 : Index := 0#32
  let c0_16 : Index := 0#32
  ![v21.toNat, 1, 0, 0]
def k0_off3 (d0 : Dev nD) (c0_i32_25 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : BitVec 32 := Scalar.subi v2 c0_i32_25
  let c8_i32_26 : BitVec 32 := 8#32
  let c0_i32_27 : BitVec 32 := 0#32
  let v38 : BitVec 1 := Scalar.cmpi .eq c8_i32_26 c0_i32_27
  let c1_i32_28 : BitVec 32 := 1#32
  let v39 : BitVec 32 := Scalar.select v38 c1_i32_28 c8_i32_26
  let v40 : BitVec 32 := Scalar.remsi v37 v39
  let c0_i32_30 : BitVec 32 := 0#32
  let v42 : BitVec 1 := Scalar.cmpi .slt v40 c0_i32_30
  let c0_i32_31 : BitVec 32 := 0#32
  let v43 : BitVec 1 := Scalar.cmpi .slt v39 c0_i32_31
  let v44 : BitVec 1 := Scalar.xori v42 v43
  let c0_i32_29 : BitVec 32 := 0#32
  let v41 : BitVec 1 := Scalar.cmpi .ne v40 c0_i32_29
  let v45 : BitVec 1 := Scalar.andi v44 v41
  let v46 : BitVec 32 := Scalar.addi v40 v39
  let v47 : BitVec 32 := Scalar.select v45 v46 v40
  let c0_i32_33 : BitVec 32 := 0#32
  let c0_i32_40 : BitVec 32 := 0#32
  let c0_i32_41 : BitVec 32 := 0#32
  ![v47.toNat, 0, 0, 0]
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_38 : BitVec 32 := 1#32
  let v48 : BitVec 32 := Scalar.muli v7 c1_i32_38
  let v49 : BitVec 32 := Scalar.addi c0_i32_39 v48
  v49.toNat
def k0_off4 (d0 : Dev nD) (c0_i32_44 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v58 : BitVec 32 := Scalar.addi v2 c0_i32_44
  let c8_i32_45 : BitVec 32 := 8#32
  let c0_i32_46 : BitVec 32 := 0#32
  let v59 : BitVec 1 := Scalar.cmpi .eq c8_i32_45 c0_i32_46
  let c1_i32_47 : BitVec 32 := 1#32
  let v60 : BitVec 32 := Scalar.select v59 c1_i32_47 c8_i32_45
  let v61 : BitVec 32 := Scalar.remsi v58 v60
  let c0_i32_49 : BitVec 32 := 0#32
  let v63 : BitVec 1 := Scalar.cmpi .slt v61 c0_i32_49
  let c0_i32_50 : BitVec 32 := 0#32
  let v64 : BitVec 1 := Scalar.cmpi .slt v60 c0_i32_50
  let v65 : BitVec 1 := Scalar.xori v63 v64
  let c0_i32_48 : BitVec 32 := 0#32
  let v62 : BitVec 1 := Scalar.cmpi .ne v61 c0_i32_48
  let v66 : BitVec 1 := Scalar.andi v65 v62
  let v67 : BitVec 32 := Scalar.addi v61 v60
  let v68 : BitVec 32 := Scalar.select v66 v67 v61
  let c0_i32_52 : BitVec 32 := 0#32
  let c0_i32_59 : BitVec 32 := 0#32
  let c0_i32_60 : BitVec 32 := 0#32
  ![v68.toNat, 0, 0, 0]
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_57 : BitVec 32 := 1#32
  let v69 : BitVec 32 := Scalar.muli v5 c1_i32_57
  let v70 : BitVec 32 := Scalar.addi c0_i32_58 v69
  v70.toNat
def k0_off5 (d0 : Dev nD) (c0_i32_63 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v79 : BitVec 32 := Scalar.subi v2 c0_i32_63
  let c8_i32_64 : BitVec 32 := 8#32
  let c0_i32_65 : BitVec 32 := 0#32
  let v80 : BitVec 1 := Scalar.cmpi .eq c8_i32_64 c0_i32_65
  let c1_i32_66 : BitVec 32 := 1#32
  let v81 : BitVec 32 := Scalar.select v80 c1_i32_66 c8_i32_64
  let v82 : BitVec 32 := Scalar.remsi v79 v81
  let c0_i32_68 : BitVec 32 := 0#32
  let v84 : BitVec 1 := Scalar.cmpi .slt v82 c0_i32_68
  let c0_i32_69 : BitVec 32 := 0#32
  let v85 : BitVec 1 := Scalar.cmpi .slt v81 c0_i32_69
  let v86 : BitVec 1 := Scalar.xori v84 v85
  let c0_i32_67 : BitVec 32 := 0#32
  let v83 : BitVec 1 := Scalar.cmpi .ne v82 c0_i32_67
  let v87 : BitVec 1 := Scalar.andi v86 v83
  let v88 : BitVec 32 := Scalar.addi v82 v81
  let v89 : BitVec 32 := Scalar.select v87 v88 v82
  let c1_i32_71 : BitVec 32 := 1#32
  let c0_i32_78 : BitVec 32 := 0#32
  let c0_i32_79 : BitVec 32 := 0#32
  ![v89.toNat, 1, 0, 0]
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_76 : BitVec 32 := 1#32
  let v90 : BitVec 32 := Scalar.muli v7 c1_i32_76
  let v91 : BitVec 32 := Scalar.addi c0_i32_77 v90
  v91.toNat
def k0_off6 (d0 : Dev nD) (c0_i32_82 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c0_i32_82
  let c8_i32_83 : BitVec 32 := 8#32
  let c0_i32_84 : BitVec 32 := 0#32
  let v101 : BitVec 1 := Scalar.cmpi .eq c8_i32_83 c0_i32_84
  let c1_i32_85 : BitVec 32 := 1#32
  let v102 : BitVec 32 := Scalar.select v101 c1_i32_85 c8_i32_83
  let v103 : BitVec 32 := Scalar.remsi v100 v102
  let c0_i32_87 : BitVec 32 := 0#32
  let v105 : BitVec 1 := Scalar.cmpi .slt v103 c0_i32_87
  let c0_i32_88 : BitVec 32 := 0#32
  let v106 : BitVec 1 := Scalar.cmpi .slt v102 c0_i32_88
  let v107 : BitVec 1 := Scalar.xori v105 v106
  let c0_i32_86 : BitVec 32 := 0#32
  let v104 : BitVec 1 := Scalar.cmpi .ne v103 c0_i32_86
  let v108 : BitVec 1 := Scalar.andi v107 v104
  let v109 : BitVec 32 := Scalar.addi v103 v102
  let v110 : BitVec 32 := Scalar.select v108 v109 v103
  let c1_i32_90 : BitVec 32 := 1#32
  let c0_i32_97 : BitVec 32 := 0#32
  let c0_i32_98 : BitVec 32 := 0#32
  ![v110.toNat, 1, 0, 0]
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_95 : BitVec 32 := 1#32
  let v111 : BitVec 32 := Scalar.muli v5 c1_i32_95
  let v112 : BitVec 32 := Scalar.addi c0_i32_96 v111
  v112.toNat
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_133 : BitVec 32 := 1#32
  let v151 : BitVec 32 := Scalar.muli v7 c1_i32_133
  let v152 : BitVec 32 := Scalar.addi c0_i32_134 v151
  v152.toNat
def k0_off7 (d0 : Dev nD) (c0_i32_140 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v161 : BitVec 32 := Scalar.subi v2 c1_i32_139
  let v162 : BitVec 32 := Scalar.subi v161 c0_i32_140
  let c8_i32_141 : BitVec 32 := 8#32
  let c0_i32_142 : BitVec 32 := 0#32
  let v163 : BitVec 1 := Scalar.cmpi .eq c8_i32_141 c0_i32_142
  let c1_i32_143 : BitVec 32 := 1#32
  let v164 : BitVec 32 := Scalar.select v163 c1_i32_143 c8_i32_141
  let v165 : BitVec 32 := Scalar.remsi v162 v164
  let c0_i32_145 : BitVec 32 := 0#32
  let v167 : BitVec 1 := Scalar.cmpi .slt v165 c0_i32_145
  let c0_i32_146 : BitVec 32 := 0#32
  let v168 : BitVec 1 := Scalar.cmpi .slt v164 c0_i32_146
  let v169 : BitVec 1 := Scalar.xori v167 v168
  let c0_i32_144 : BitVec 32 := 0#32
  let v166 : BitVec 1 := Scalar.cmpi .ne v165 c0_i32_144
  let v170 : BitVec 1 := Scalar.andi v169 v166
  let v171 : BitVec 32 := Scalar.addi v165 v164
  let v172 : BitVec 32 := Scalar.select v170 v171 v165
  let v173 : Index := Scalar.indexCast v172
  let c0_147 : Index := 0#32
  let c0_148 : Index := 0#32
  let c0_149 : Index := 0#32
  ![v173.toNat, 0, 0, 0]
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_167 : BitVec 32 := 1#32
  let v189 : BitVec 32 := Scalar.muli v7 c1_i32_167
  let v190 : BitVec 32 := Scalar.addi c0_i32_168 v189
  v190.toNat
def k0_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_205 : BitVec 32 := 1#32
  let v229 : BitVec 32 := Scalar.muli v5 c1_i32_205
  let v230 : BitVec 32 := Scalar.addi c0_i32_206 v229
  v230.toNat
def k0_off8 (d0 : Dev nD) (c0_i32_212 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_211 : BitVec 32 := 1#32
  let v239 : BitVec 32 := Scalar.addi v2 c1_i32_211
  let v240 : BitVec 32 := Scalar.addi v239 c0_i32_212
  let c8_i32_213 : BitVec 32 := 8#32
  let c0_i32_214 : BitVec 32 := 0#32
  let v241 : BitVec 1 := Scalar.cmpi .eq c8_i32_213 c0_i32_214
  let c1_i32_215 : BitVec 32 := 1#32
  let v242 : BitVec 32 := Scalar.select v241 c1_i32_215 c8_i32_213
  let v243 : BitVec 32 := Scalar.remsi v240 v242
  let c0_i32_217 : BitVec 32 := 0#32
  let v245 : BitVec 1 := Scalar.cmpi .slt v243 c0_i32_217
  let c0_i32_218 : BitVec 32 := 0#32
  let v246 : BitVec 1 := Scalar.cmpi .slt v242 c0_i32_218
  let v247 : BitVec 1 := Scalar.xori v245 v246
  let c0_i32_216 : BitVec 32 := 0#32
  let v244 : BitVec 1 := Scalar.cmpi .ne v243 c0_i32_216
  let v248 : BitVec 1 := Scalar.andi v247 v244
  let v249 : BitVec 32 := Scalar.addi v243 v242
  let v250 : BitVec 32 := Scalar.select v248 v249 v243
  let v251 : Index := Scalar.indexCast v250
  let c0_219 : Index := 0#32
  let c0_220 : Index := 0#32
  let c0_221 : Index := 0#32
  ![v251.toNat, 0, 0, 0]
def k0_dev10 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_240 : BitVec 32 := 1#32
  let v267 : BitVec 32 := Scalar.muli v5 c1_i32_240
  let v268 : BitVec 32 := Scalar.addi c0_i32_241 v267
  v268.toNat
def k0_dev11 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_278 : BitVec 32 := 1#32
  let v307 : BitVec 32 := Scalar.muli v7 c1_i32_278
  let v308 : BitVec 32 := Scalar.addi c0_i32_279 v307
  v308.toNat
def k0_off9 (d0 : Dev nD) (c0_i32_285 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_284 : BitVec 32 := 1#32
  let v317 : BitVec 32 := Scalar.subi v2 c1_i32_284
  let v318 : BitVec 32 := Scalar.subi v317 c0_i32_285
  let c8_i32_286 : BitVec 32 := 8#32
  let c0_i32_287 : BitVec 32 := 0#32
  let v319 : BitVec 1 := Scalar.cmpi .eq c8_i32_286 c0_i32_287
  let c1_i32_288 : BitVec 32 := 1#32
  let v320 : BitVec 32 := Scalar.select v319 c1_i32_288 c8_i32_286
  let v321 : BitVec 32 := Scalar.remsi v318 v320
  let c0_i32_290 : BitVec 32 := 0#32
  let v323 : BitVec 1 := Scalar.cmpi .slt v321 c0_i32_290
  let c0_i32_291 : BitVec 32 := 0#32
  let v324 : BitVec 1 := Scalar.cmpi .slt v320 c0_i32_291
  let v325 : BitVec 1 := Scalar.xori v323 v324
  let c0_i32_289 : BitVec 32 := 0#32
  let v322 : BitVec 1 := Scalar.cmpi .ne v321 c0_i32_289
  let v326 : BitVec 1 := Scalar.andi v325 v322
  let v327 : BitVec 32 := Scalar.addi v321 v320
  let v328 : BitVec 32 := Scalar.select v326 v327 v321
  let v329 : Index := Scalar.indexCast v328
  let c1_292 : Index := 1#32
  let c0_293 : Index := 0#32
  let c0_294 : Index := 0#32
  ![v329.toNat, 1, 0, 0]
def k0_dev12 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_313 : BitVec 32 := 1#32
  let v345 : BitVec 32 := Scalar.muli v7 c1_i32_313
  let v346 : BitVec 32 := Scalar.addi c0_i32_314 v345
  v346.toNat
def k0_dev13 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_351 : BitVec 32 := 1#32
  let v385 : BitVec 32 := Scalar.muli v5 c1_i32_351
  let v386 : BitVec 32 := Scalar.addi c0_i32_352 v385
  v386.toNat
def k0_off10 (d0 : Dev nD) (c0_i32_358 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_357 : BitVec 32 := 1#32
  let v395 : BitVec 32 := Scalar.addi v2 c1_i32_357
  let v396 : BitVec 32 := Scalar.addi v395 c0_i32_358
  let c8_i32_359 : BitVec 32 := 8#32
  let c0_i32_360 : BitVec 32 := 0#32
  let v397 : BitVec 1 := Scalar.cmpi .eq c8_i32_359 c0_i32_360
  let c1_i32_361 : BitVec 32 := 1#32
  let v398 : BitVec 32 := Scalar.select v397 c1_i32_361 c8_i32_359
  let v399 : BitVec 32 := Scalar.remsi v396 v398
  let c0_i32_363 : BitVec 32 := 0#32
  let v401 : BitVec 1 := Scalar.cmpi .slt v399 c0_i32_363
  let c0_i32_364 : BitVec 32 := 0#32
  let v402 : BitVec 1 := Scalar.cmpi .slt v398 c0_i32_364
  let v403 : BitVec 1 := Scalar.xori v401 v402
  let c0_i32_362 : BitVec 32 := 0#32
  let v400 : BitVec 1 := Scalar.cmpi .ne v399 c0_i32_362
  let v404 : BitVec 1 := Scalar.andi v403 v400
  let v405 : BitVec 32 := Scalar.addi v399 v398
  let v406 : BitVec 32 := Scalar.select v404 v405 v399
  let v407 : Index := Scalar.indexCast v406
  let c1_365 : Index := 1#32
  let c0_366 : Index := 0#32
  let c0_367 : Index := 0#32
  ![v407.toNat, 1, 0, 0]
def k0_dev14 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_386 : BitVec 32 := 1#32
  let v423 : BitVec 32 := Scalar.muli v5 c1_i32_386
  let v424 : BitVec 32 := Scalar.addi c0_i32_387 v423
  v424.toNat
def k0_dev15 (d0 : Dev nD) : Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_444 : BitVec 32 := 1#32
  let v487 : BitVec 32 := Scalar.muli v7 c1_i32_444
  let v488 : BitVec 32 := Scalar.addi c0_i32_445 v487
  v488.toNat
def k0_dev16 (d0 : Dev nD) : Nat :=
  let c0_i32_498 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_497 : BitVec 32 := 1#32
  let v537 : BitVec 32 := Scalar.muli v7 c1_i32_497
  let v538 : BitVec 32 := Scalar.addi c0_i32_498 v537
  v538.toNat
def k0_dev17 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_535 : BitVec 32 := 1#32
  let v577 : BitVec 32 := Scalar.muli v5 c1_i32_535
  let v578 : BitVec 32 := Scalar.addi c0_i32_536 v577
  v578.toNat
def k0_dev18 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_588 : BitVec 32 := 1#32
  let v627 : BitVec 32 := Scalar.muli v5 c1_i32_588
  let v628 : BitVec 32 := Scalar.addi c0_i32_589 v627
  v628.toNat
def k0_dev19 (d0 : Dev nD) : Nat :=
  let c0_i32_627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_626 : BitVec 32 := 1#32
  let v667 : BitVec 32 := Scalar.muli v7 c1_i32_626
  let v668 : BitVec 32 := Scalar.addi c0_i32_627 v667
  v668.toNat
def k0_dev20 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_679 : BitVec 32 := 1#32
  let v717 : BitVec 32 := Scalar.muli v7 c1_i32_679
  let v718 : BitVec 32 := Scalar.addi c0_i32_680 v717
  v718.toNat
def k0_dev21 (d0 : Dev nD) : Nat :=
  let c0_i32_718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_717 : BitVec 32 := 1#32
  let v757 : BitVec 32 := Scalar.muli v5 c1_i32_717
  let v758 : BitVec 32 := Scalar.addi c0_i32_718 v757
  v758.toNat
def k0_dev22 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_770 : BitVec 32 := 1#32
  let v807 : BitVec 32 := Scalar.muli v5 c1_i32_770
  let v808 : BitVec 32 := Scalar.addi c0_i32_771 v807
  v808.toNat
def k0_dev23 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_807 : BitVec 32 := 1#32
  let v847 : BitVec 32 := Scalar.muli v7 c1_i32_807
  let v848 : BitVec 32 := Scalar.addi c0_i32_808 v847
  v848.toNat
def k0_dev24 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_873 : BitVec 32 := 1#32
  let v903 : BitVec 32 := Scalar.muli v7 c1_i32_873
  let v904 : BitVec 32 := Scalar.addi c0_i32_874 v903
  v904.toNat
def k0_dev25 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_911 : BitVec 32 := 1#32
  let v943 : BitVec 32 := Scalar.muli v5 c1_i32_911
  let v944 : BitVec 32 := Scalar.addi c0_i32_912 v943
  v944.toNat
def k0_dev26 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_977 : BitVec 32 := 1#32
  let v999 : BitVec 32 := Scalar.muli v5 c1_i32_977
  let v1000 : BitVec 32 := Scalar.addi c0_i32_978 v999
  v1000.toNat
def k0_dev27 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1015 : BitVec 32 := 1#32
  let v1039 : BitVec 32 := Scalar.muli v7 c1_i32_1015
  let v1040 : BitVec 32 := Scalar.addi c0_i32_1016 v1039
  v1040.toNat
def k0_dev28 (d0 : Dev nD) : Nat :=
  let c0_i32_1082 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1081 : BitVec 32 := 1#32
  let v1095 : BitVec 32 := Scalar.muli v7 c1_i32_1081
  let v1096 : BitVec 32 := Scalar.addi c0_i32_1082 v1095
  v1096.toNat
def k0_dev29 (d0 : Dev nD) : Nat :=
  let c0_i32_1120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1119 : BitVec 32 := 1#32
  let v1135 : BitVec 32 := Scalar.muli v5 c1_i32_1119
  let v1136 : BitVec 32 := Scalar.addi c0_i32_1120 v1135
  v1136.toNat
def k0_dev30 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1185 : BitVec 32 := 1#32
  let v1191 : BitVec 32 := Scalar.muli v5 c1_i32_1185
  let v1192 : BitVec 32 := Scalar.addi c0_i32_1186 v1191
  v1192.toNat
def k0_dev31 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1222 : BitVec 32 := 1#32
  let v1231 : BitVec 32 := Scalar.muli v7 c1_i32_1222
  let v1232 : BitVec 32 := Scalar.addi c0_i32_1223 v1231
  v1232.toNat
def k0_dev32 (d0 : Dev nD) : Nat :=
  let c0_i32_1288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1287 : BitVec 32 := 1#32
  let v1287 : BitVec 32 := Scalar.muli v7 c1_i32_1287
  let v1288 : BitVec 32 := Scalar.addi c0_i32_1288 v1287
  v1288.toNat
def k0_dev33 (d0 : Dev nD) : Nat :=
  let c0_i32_1326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1325 : BitVec 32 := 1#32
  let v1327 : BitVec 32 := Scalar.muli v5 c1_i32_1325
  let v1328 : BitVec 32 := Scalar.addi c0_i32_1326 v1327
  v1328.toNat
def k0_dev34 (d0 : Dev nD) : Nat :=
  let c0_i32_1392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1391 : BitVec 32 := 1#32
  let v1383 : BitVec 32 := Scalar.muli v5 c1_i32_1391
  let v1384 : BitVec 32 := Scalar.addi c0_i32_1392 v1383
  v1384.toNat
def k0_dev35 (d0 : Dev nD) : Nat :=
  let c0_i32_1430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1429 : BitVec 32 := 1#32
  let v1423 : BitVec 32 := Scalar.muli v7 c1_i32_1429
  let v1424 : BitVec 32 := Scalar.addi c0_i32_1430 v1423
  v1424.toNat
def k0_dev36 (d0 : Dev nD) : Nat :=
  let c0_i32_1496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1495 : BitVec 32 := 1#32
  let v1479 : BitVec 32 := Scalar.muli v7 c1_i32_1495
  let v1480 : BitVec 32 := Scalar.addi c0_i32_1496 v1479
  v1480.toNat
def k0_dev37 (d0 : Dev nD) : Nat :=
  let c0_i32_1534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1533 : BitVec 32 := 1#32
  let v1519 : BitVec 32 := Scalar.muli v5 c1_i32_1533
  let v1520 : BitVec 32 := Scalar.addi c0_i32_1534 v1519
  v1520.toNat
def k0_dev38 (d0 : Dev nD) : Nat :=
  let c0_i32_1600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1599 : BitVec 32 := 1#32
  let v1575 : BitVec 32 := Scalar.muli v5 c1_i32_1599
  let v1576 : BitVec 32 := Scalar.addi c0_i32_1600 v1575
  v1576.toNat
def k0_dev39 (d0 : Dev nD) : Nat :=
  let c0_i32_1637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1636 : BitVec 32 := 1#32
  let v1615 : BitVec 32 := Scalar.muli v7 c1_i32_1636
  let v1616 : BitVec 32 := Scalar.addi c0_i32_1637 v1615
  v1616.toNat
def k0_dev40 (d0 : Dev nD) : Nat :=
  let c0_i32_1702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1701 : BitVec 32 := 1#32
  let v1671 : BitVec 32 := Scalar.muli v7 c1_i32_1701
  let v1672 : BitVec 32 := Scalar.addi c0_i32_1702 v1671
  v1672.toNat
def k0_dev41 (d0 : Dev nD) : Nat :=
  let c0_i32_1740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1739 : BitVec 32 := 1#32
  let v1711 : BitVec 32 := Scalar.muli v5 c1_i32_1739
  let v1712 : BitVec 32 := Scalar.addi c0_i32_1740 v1711
  v1712.toNat
def k0_dev42 (d0 : Dev nD) : Nat :=
  let c0_i32_1806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1805 : BitVec 32 := 1#32
  let v1767 : BitVec 32 := Scalar.muli v5 c1_i32_1805
  let v1768 : BitVec 32 := Scalar.addi c0_i32_1806 v1767
  v1768.toNat
def k0_dev43 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1843 : BitVec 32 := 1#32
  let v1807 : BitVec 32 := Scalar.muli v7 c1_i32_1843
  let v1808 : BitVec 32 := Scalar.addi c0_i32_1844 v1807
  v1808.toNat
def k0_dev44 (d0 : Dev nD) : Nat :=
  let c0_i32_1910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1909 : BitVec 32 := 1#32
  let v1863 : BitVec 32 := Scalar.muli v7 c1_i32_1909
  let v1864 : BitVec 32 := Scalar.addi c0_i32_1910 v1863
  v1864.toNat
def k0_dev45 (d0 : Dev nD) : Nat :=
  let c0_i32_1948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1947 : BitVec 32 := 1#32
  let v1903 : BitVec 32 := Scalar.muli v5 c1_i32_1947
  let v1904 : BitVec 32 := Scalar.addi c0_i32_1948 v1903
  v1904.toNat
def k0_dev46 (d0 : Dev nD) : Nat :=
  let c0_i32_2014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2013 : BitVec 32 := 1#32
  let v1959 : BitVec 32 := Scalar.muli v5 c1_i32_2013
  let v1960 : BitVec 32 := Scalar.addi c0_i32_2014 v1959
  v1960.toNat
def k0_dev47 (d0 : Dev nD) : Nat :=
  let c0_i32_2051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2050 : BitVec 32 := 1#32
  let v1999 : BitVec 32 := Scalar.muli v7 c1_i32_2050
  let v2000 : BitVec 32 := Scalar.addi c0_i32_2051 v1999
  v2000.toNat
def k0_dev48 (d0 : Dev nD) : Nat :=
  let c0_i32_2116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2115 : BitVec 32 := 1#32
  let v2055 : BitVec 32 := Scalar.muli v7 c1_i32_2115
  let v2056 : BitVec 32 := Scalar.addi c0_i32_2116 v2055
  v2056.toNat
def k0_dev49 (d0 : Dev nD) : Nat :=
  let c0_i32_2154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2153 : BitVec 32 := 1#32
  let v2095 : BitVec 32 := Scalar.muli v5 c1_i32_2153
  let v2096 : BitVec 32 := Scalar.addi c0_i32_2154 v2095
  v2096.toNat
def k0_dev50 (d0 : Dev nD) : Nat :=
  let c0_i32_2220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2219 : BitVec 32 := 1#32
  let v2151 : BitVec 32 := Scalar.muli v5 c1_i32_2219
  let v2152 : BitVec 32 := Scalar.addi c0_i32_2220 v2151
  v2152.toNat
def k0_dev51 (d0 : Dev nD) : Nat :=
  let c0_i32_2258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2257 : BitVec 32 := 1#32
  let v2191 : BitVec 32 := Scalar.muli v7 c1_i32_2257
  let v2192 : BitVec 32 := Scalar.addi c0_i32_2258 v2191
  v2192.toNat
def k0_dev52 (d0 : Dev nD) : Nat :=
  let c0_i32_2324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2323 : BitVec 32 := 1#32
  let v2247 : BitVec 32 := Scalar.muli v7 c1_i32_2323
  let v2248 : BitVec 32 := Scalar.addi c0_i32_2324 v2247
  v2248.toNat
def k0_dev53 (d0 : Dev nD) : Nat :=
  let c0_i32_2362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2361 : BitVec 32 := 1#32
  let v2287 : BitVec 32 := Scalar.muli v5 c1_i32_2361
  let v2288 : BitVec 32 := Scalar.addi c0_i32_2362 v2287
  v2288.toNat
def k0_dev54 (d0 : Dev nD) : Nat :=
  let c0_i32_2428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2427 : BitVec 32 := 1#32
  let v2343 : BitVec 32 := Scalar.muli v5 c1_i32_2427
  let v2344 : BitVec 32 := Scalar.addi c0_i32_2428 v2343
  v2344.toNat
def k0_dev55 (d0 : Dev nD) : Nat :=
  let c0_i32_2512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2511 : BitVec 32 := 1#32
  let v2418 : BitVec 32 := Scalar.muli v7 c1_i32_2511
  let v2419 : BitVec 32 := Scalar.addi c0_i32_2512 v2418
  v2419.toNat
def k0_dev56 (d0 : Dev nD) : Nat :=
  let c0_i32_2597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2596 : BitVec 32 := 1#32
  let v2493 : BitVec 32 := Scalar.muli v5 c1_i32_2596
  let v2494 : BitVec 32 := Scalar.addi c0_i32_2597 v2493
  v2494.toNat
def k0_dev57 (d0 : Dev nD) : Nat :=
  let c0_i32_2682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2681 : BitVec 32 := 1#32
  let v2568 : BitVec 32 := Scalar.muli v7 c1_i32_2681
  let v2569 : BitVec 32 := Scalar.addi c0_i32_2682 v2568
  v2569.toNat
def k0_dev58 (d0 : Dev nD) : Nat :=
  let c0_i32_2767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_2766 : BitVec 32 := 1#32
  let v2643 : BitVec 32 := Scalar.muli v5 c1_i32_2766
  let v2644 : BitVec 32 := Scalar.addi c0_i32_2767 v2643
  v2644.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x512 : Shape := ⟨2, ![4096, 512]⟩
abbrev S512x16384 : Shape := ⟨2, ![512, 16384]⟩
abbrev S16384x512 : Shape := ⟨2, ![16384, 512]⟩
abbrev S4096x16384 : Shape := ⟨2, ![4096, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x16384, .f32⟩
  | .hbm, ⟨2, _⟩ => ⟨S16384x512, .f32⟩
  | .hbm, ⟨3, _⟩ => ⟨S4096x16384, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ClippedIdeal.lean ====
abbrev S4096x512 : Shape := ⟨2, ![4096, 512]⟩
abbrev S512x16384 : Shape := ⟨2, ![512, 16384]⟩
abbrev S16384x512 : Shape := ⟨2, ![16384, 512]⟩
abbrev S4096x16384 : Shape := ⟨2, ![4096, 16384]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x16384, .f32⟩
  | .hbm, ⟨2, _⟩ => ⟨S16384x512, .f32⟩
  | .hbm, ⟨3, _⟩ => ⟨S4096x16384, .f32⟩
  | .hbm, ⟨4, _⟩ => ⟨S_, .i32⟩
  | .hbm, ⟨5, _⟩ => ⟨S_, .i32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Prog.lean ====
/-
# The kernel body as a chain of stages

The kernel runs four STREAMS `j : Fin 4`, in the order right half-block 0, left half-block 0, right half-block 1,
left half-block 1. Stream `j` moves quarter-blocks of `x` round the ring one way (the gather) and partial sums of the
result after them (the reduction), in seven steps. A step of a stream is one program `step`, the same for every stream and
every step number; the printed body is the chain of the twenty-eight steps between an opening and a closing
(`body_eq`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Tactic

@[expose] public section

noncomputable section

namespace Cert.KernelRun

open Cert.KernelIdeal Cert.KernelIdeal.Gen

open Idealize.ShloMosaic
open Idealize.ShloMosaic.TcCoe
open Idealize.SL.Sem

variable {F : FTy → Type} [FloatOps F]

/-! ## Streams, hops and devices -/

/-- Which way stream `j` goes: `false` to the right, `true` to the left. -/
abbrev way (j : Fin 4) : Bool := match j with | 0 => false | 1 => true | 2 => false | 3 => true
/-- Which half of a direction's half-block stream `j` moves. -/
abbrev sub (j : Fin 4) : Fin 2 := match j with | 0 => 0 | 1 => 0 | 2 => 1 | 3 => 1
/-- The first row of the quarter of a block that stream `j` moves. -/
abbrev row (j : Fin 4) : ℕ := match j with | 0 => 0 | 1 => 256 | 2 => 128 | 3 => 384

/-- A step or hop number as an index of the seven. -/
abbrev hop (h : ℕ) : Fin 7 := ⟨h % 7, Nat.mod_lt _ (by decide)⟩
/-- The accumulator slot of step `h`. -/
abbrev par (h : ℕ) : Fin 2 := ⟨h % 2, Nat.mod_lt _ (by decide)⟩

/-- The neighbour a direction sends to. -/
def peer (w : Bool) (c : Dev nD) : Dev nD := if w then ⟨(c.val + 7) % 8, Nat.mod_lt _ (by decide)⟩ else ⟨(c.val + 1) % 8, Nat.mod_lt _ (by decide)⟩

/-- The block at distance `h` on the side a direction receives from. -/
def blk (w : Bool) (c : Dev nD) (h : ℕ) : Fin 8 :=
  if w then ⟨(c.val + h) % 8, Nat.mod_lt _ (by decide)⟩ else ⟨(c.val + 8 - h % 8) % 8, Nat.mod_lt _ (by decide)⟩

/-! ## The buffers -/

abbrev xM : Memref sig .tc .vmem S512x512 .bf16 := Memref.whole cc0_stg0_0
abbrev w1M : Memref sig .tc .vmem S512x2048 .bf16 := Memref.whole cc0_stg1_0
abbrev w2M : Memref sig .tc .vmem S2048x512 .bf16 := Memref.whole cc0_stg2_0
abbrev oM : Memref sig .tc .vmem S512x512 .f32 := Memref.whole cc0_stg3_0

/-- The gather buffer of a direction, -/
def xgM (w : Bool) : Memref sig .tc .vmem S8x2x128x512 .bf16 := match w with | false => Memref.whole cc0_scratch0 | true => Memref.whole cc0_scratch1
/-- its landing slots for partial sums, -/
def rsM (w : Bool) : Memref sig .tc .vmem S7x2x128x512 .bf16 := match w with | false => Memref.whole cc0_scratch2 | true => Memref.whole cc0_scratch3
/-- and its two accumulator slots. -/
def acM (w : Bool) : Memref sig .tc .vmem S2x2x128x512 .bf16 := match w with | false => Memref.whole cc0_scratch4 | true => Memref.whole cc0_scratch5

theorem xgM_whole (w : Bool) : (xgM w).IsWhole := by cases w <;> exact Memref.isWhole_whole _
theorem rsM_whole (w : Bool) : (rsM w).IsWhole := by cases w <;> exact Memref.isWhole_whole _
theorem acM_whole (w : Bool) : (acM w).IsWhole := by cases w <;> exact Memref.isWhole_whole _

theorem xg_inb : ∀ (b : Fin 8) (u : Fin 2), ∀ a, (![b.val, u.val, 0, 0] : Fin 4 → ℕ) a + S1x1x128x512.size a ≤ S8x2x128x512.size a := by decide
theorem rs_inb : ∀ (b : Fin 7) (u : Fin 2), ∀ a, (![b.val, u.val, 0, 0] : Fin 4 → ℕ) a + S1x1x128x512.size a ≤ S7x2x128x512.size a := by decide
theorem ac_inb : ∀ (b : Fin 2) (u : Fin 2), ∀ a, (![b.val, u.val, 0, 0] : Fin 4 → ℕ) a + S1x1x128x512.size a ≤ S2x2x128x512.size a := by decide

abbrev xgR (b : Fin 8) (u : Fin 2) : Rect S8x2x128x512 := Rect.unit (s := S8x2x128x512) ![b.val, u.val, 0, 0] S1x1x128x512.size (xg_inb b u)
abbrev rsR (b : Fin 7) (u : Fin 2) : Rect S7x2x128x512 := Rect.unit (s := S7x2x128x512) ![b.val, u.val, 0, 0] S1x1x128x512.size (rs_inb b u)
abbrev acR (b : Fin 2) (u : Fin 2) : Rect S2x2x128x512 := Rect.unit (s := S2x2x128x512) ![b.val, u.val, 0, 0] S1x1x128x512.size (ac_inb b u)

theorem xg_words : ∀ (b : Fin 8) (u : Fin 2), (xgR b u).WholeWords (EltTy.packing .bf16) := by decide +kernel
theorem rs_words : ∀ (b : Fin 7) (u : Fin 2), (rsR b u).WholeWords (EltTy.packing .bf16) := by decide +kernel
theorem ac_words : ∀ (b : Fin 2) (u : Fin 2), (acR b u).WholeWords (EltTy.packing .bf16) := by decide +kernel
theorem xg_packed : ∀ (b : Fin 8) (u : Fin 2), (xgR b u).PackedRows (EltTy.packing .bf16) := by decide +kernel
theorem ac_packed : ∀ (b : Fin 2) (u : Fin 2), (acR b u).PackedRows (EltTy.packing .bf16) := by decide +kernel

/-- Offsets, as the program computes them, of slot `(b, u)` of a gather buffer. -/
structure Slot (b : Fin 8) (u : Fin 2) where
  off : Fin 4 → ℕ
  eq : off = ![b.val, u.val, 0, 0]

namespace Slot
variable {b : Fin 8} {u : Fin 2}

/-- The slot's own offsets. -/
def canon (b : Fin 8) (u : Fin 2) : Slot b u := ⟨_, rfl⟩
theorem eq_canon (x : Slot b u) : x = canon b u := by cases x with | mk off eq => subst eq; rfl
theorem inb (x : Slot b u) : ∀ a, x.off a + S1x1x128x512.size a ≤ S8x2x128x512.size a := by rw [x.eq]; exact xg_inb b u
abbrev rect (x : Slot b u) : Rect S8x2x128x512 := Rect.unit (s := S8x2x128x512) x.off S1x1x128x512.size x.inb
theorem words (x : Slot b u) : x.rect.WholeWords (EltTy.packing .bf16) := by rw [x.eq_canon]; exact xg_words b u
theorem packed (x : Slot b u) : x.rect.PackedRows (EltTy.packing .bf16) := by rw [x.eq_canon]; exact xg_packed b u
end Slot

/-- A slot of a gather buffer as a 128 by 512 buffer, -/
def xgS (w : Bool) {b : Fin 8} {u : Fin 2} (x : Slot b u) : Memref sig .tc .vmem S128x512 .bf16 :=
  ((xgM w).slice x.rect (fun _ => rfl)).squeeze S128x512 squeezes_S1x1x128x512_S128x512
/-- a landing slot, -/
def rsS (w : Bool) (b : Fin 7) (u : Fin 2) : Memref sig .tc .vmem S128x512 .bf16 :=
  ((rsM w).slice (rsR b u) (fun _ => rfl)).squeeze S128x512 squeezes_S1x1x128x512_S128x512
/-- an accumulator slot. -/
def acS (w : Bool) (b : Fin 2) (u : Fin 2) : Memref sig .tc .vmem S128x512 .bf16 :=
  ((acM w).slice (acR b u) (fun _ => rfl)).squeeze S128x512 squeezes_S1x1x128x512_S128x512

theorem xgS_exact (w : Bool) {b : Fin 8} {u : Fin 2} (x : Slot b u) : (xgS w x).view.WordExact :=
  ((xgM_whole w).wordExact_slice rfl _ x.words).reshape _ _
theorem rsS_exact (w : Bool) (b : Fin 7) (u : Fin 2) : (rsS w b u).view.WordExact :=
  ((rsM_whole w).wordExact_slice rfl _ (rs_words b u)).reshape _ _
theorem acS_exact (w : Bool) (b : Fin 2) (u : Fin 2) : (acS w b u).view.WordExact :=
  ((acM_whole w).wordExact_slice rfl _ (ac_words b u)).reshape _ _

/-! ## The semaphores -/

/-- The transfer semaphores: kind `k` (0 gather sent, 1 gather received, 2 sum sent, 3 sum received) of stream `j` at hop `h`. -/
def dsem (k : Fin 4) (j : Fin 4) (h : Fin 7) : DmaSem sig :=
  ⟨4 + 14 * (4 * (k.val / 2) + 2 * (if way j then 1 else 0) + k.val % 2) + 2 * h.val + (sub j).val, by
    revert k j h; decide⟩

abbrev barS : Sem sig := (SemArray.scalar (sig.barrier 0 rfl) : Sems sig S_).sem

/-! ## The values -/

/-- The hidden layer of 128 rows, -/
def hid (x : FVec F S128x512 .bf16) (w1 : Vec F S512x2048 .bf16) : FVec F S128x2048 .bf16 :=
  truncf .bf16 (mulf (matmul dot_S128x512_S512x2048_S128x2048_1_0_0_1_n_n none x (shapeCast S512x2048 w1 shapeCasts_S512x2048_S512x2048 : FVec F S512x2048 .bf16) (constant S128x2048 .f32 0x00000000#32))
    (logistic (matmul dot_S128x512_S512x2048_S128x2048_1_0_0_1_n_n none x (shapeCast S512x2048 w1 shapeCasts_S512x2048_S512x2048 : FVec F S512x2048 .bf16) (constant S128x2048 .f32 0x00000000#32)))) bitsLt_bf16_f32
/-- and a device's share of the result for those rows. -/
def con (x : FVec F S128x512 .bf16) (w1 : Vec F S512x2048 .bf16) (w2 : Vec F S2048x512 .bf16) : FVec F S128x512 .f32 :=
  matmul dot_S128x2048_S2048x512_S128x512_1_0_0_1_n_n none (hid x w1) (shapeCast S2048x512 w2 shapeCasts_S2048x512_S2048x512 : FVec F S2048x512 .bf16) (constant S128x512 .f32 0x00000000#32)
/-- The same of 256 rows. -/
def hid2 (x : FVec F S256x512 .bf16) (w1 : Vec F S512x2048 .bf16) : FVec F S256x2048 .bf16 :=
  truncf .bf16 (mulf (matmul dot_S256x512_S512x2048_S256x2048_1_0_0_1_n_n none x (shapeCast S512x2048 w1 shapeCasts_S512x2048_S512x2048 : FVec F S512x2048 .bf16) (constant S256x2048 .f32 0x00000000#32))
    (logistic (matmul dot_S256x512_S512x2048_S256x2048_1_0_0_1_n_n none x (shapeCast S512x2048 w1 shapeCasts_S512x2048_S512x2048 : FVec F S512x2048 .bf16) (constant S256x2048 .f32 0x00000000#32)))) bitsLt_bf16_f32
def con2 (x : Vec F S256x512 .bf16) (w1 : Vec F S512x2048 .bf16) (w2 : Vec F S2048x512 .bf16) : FVec F S256x512 .f32 :=
  matmul dot_S256x2048_S2048x512_S256x512_1_0_0_1_n_n none (hid2 (shapeCast S256x512 x shapeCasts_S256x512_S256x512 : FVec F S256x512 .bf16) w1) (shapeCast S2048x512 w2 shapeCasts_S2048x512_S2048x512 : FVec F S2048x512 .bf16) (constant S256x512 .f32 0x00000000#32)

/-- A slot's rows as a 128 by 512 array, and back. -/
def flat (v : Vec F S1x1x128x512 .bf16) : FVec F S128x512 .bf16 := shapeCast S128x512 v shapeCasts_S1x1x128x512_S128x512
def unflat (v : FVec F S128x512 .bf16) : FVec F S1x1x128x512 .bf16 := shapeCast S1x1x128x512 v shapeCasts_S128x512_S1x1x128x512

/-- What a stream passes on at its first step: its share alone; -/
def first (p : FVec F S128x512 .f32) : FVec F S128x512 .bf16 := truncf .bf16 p bitsLt_bf16_f32
/-- and later: its share and the sum it received. -/
def later (p : FVec F S128x512 .f32) (r : FVec F S128x512 .bf16) : FVec F S128x512 .bf16 :=
  truncf .bf16 (addf p (extf .f32 r bitsLt_bf16_f32)) bitsLt_bf16_f32

/-! ## The operations, continued by `k` -/

abbrev P (F : FTy → Type) [FloatOps F] := Prog (TpuEff nD τ sig (Elt F) Λ₀ .tc) PUnit

/-- Wait on a transfer semaphore for one block. -/
def opWait (q : DmaSem sig) (a b : Memref sig .tc .vmem S128x512 .bf16) (ha : a.view.WordExact) (hb : b.view.WordExact) (k : P F) : P F :=
  .op (.waitDma2 q a b ha hb) fun _ => k
/-- Start a transfer to device `n`. -/
def opSend (n : Dev nD) (a b : Memref sig .tc .vmem S128x512 .bf16) (ha : a.view.WordExact) (hb : b.view.WordExact) (qs qr : DmaSem sig) (k : P F) : P F :=
  .op (.enqueueDma a (.remote (Dev.tc n) b (.dma qs)) (.dma qr) ha hb ⟨⟨rfl, Or.inl rfl⟩, trivial⟩) fun _ => k
/-- Load a slot of a gather buffer, of a landing buffer, of an accumulator. -/
def opLoadXg (w : Bool) {b : Fin 8} {u : Fin 2} (x : Slot b u) (k : Vec F S1x1x128x512 .bf16 → P F) : P F :=
  .op (.load (xgM w) x.rect.toLoadRect (View.loadsAt_vmem h_S1x1x128x512)) k
def opLoadRs (w : Bool) (b : Fin 7) (u : Fin 2) (k : Vec F S1x1x128x512 .bf16 → P F) : P F :=
  .op (.load (rsM w) (rsR b u).toLoadRect (View.loadsAt_vmem h_S1x1x128x512)) k
/-- Store a slot, after a load of it. -/
def opStoreXg (w : Bool) {b : Fin 8} {u : Fin 2} (x : Slot b u) (v : FVec F S128x512 .bf16) (k : P F) : P F :=
  .op (.load (xgM w) x.rect.toLoadRect (View.loadsAt_vmem h_S1x1x128x512)) fun _ =>
  .op (.store (xgM w) x.rect (unflat v) Finset.univ (View.stores_vmem h_S1x1x128x512 ((xgM_whole w).storeExact_slice rfl _ x.packed) (fun _ => rfl)) (.inl rfl)) fun _ => k
def opStoreAc (w : Bool) (b : Fin 2) (u : Fin 2) (v : FVec F S128x512 .bf16) (k : P F) : P F :=
  .op (.load (acM w) (acR b u).toLoadRect (View.loadsAt_vmem h_S1x1x128x512)) fun _ =>
  .op (.store (acM w) (acR b u) (unflat v) Finset.univ (View.stores_vmem h_S1x1x128x512 ((acM_whole w).storeExact_slice rfl _ (ac_packed b u)) (fun _ => rfl)) (.inl rfl)) fun _ => k
/-- Load the weights. -/
def opLoadW (k : Vec F S512x2048 .bf16 → Vec F S2048x512 .bf16 → P F) : P F :=
  .op (.load w1M (Rect.unit (s := S512x2048) ![0, 0] S512x2048.size inb_S512x2048_S512x2048_0_0).toLoadRect (View.loadsAt_vmem h_S512x2048)) fun w1 =>
  .op (.load w2M (Rect.unit (s := S2048x512) ![0, 0] S2048x512.size inb_S2048x512_S2048x512_0_0).toLoadRect (View.loadsAt_vmem h_S2048x512)) fun w2 => k w1 w2

/-! ## The offsets and devices the program computes -/

set_option maxRecDepth 20000 in
theorem off3_eq : ∀ (c : Dev nD) (r : Fin 7), k0_off3 c (BitVec.ofNat 32 r.val) = ![(blk false c r.val).val, 0, 0, 0] := by decide +kernel
theorem off4_eq : ∀ (c : Dev nD) (r : Fin 7), k0_off4 c (BitVec.ofNat 32 r.val) = ![(blk true c r.val).val, 0, 0, 0] := by decide +kernel
theorem off5_eq : ∀ (c : Dev nD) (r : Fin 7), k0_off5 c (BitVec.ofNat 32 r.val) = ![(blk false c r.val).val, 1, 0, 0] := by decide +kernel
theorem off6_eq : ∀ (c : Dev nD) (r : Fin 7), k0_off6 c (BitVec.ofNat 32 r.val) = ![(blk true c r.val).val, 1, 0, 0] := by decide +kernel
theorem off7_eq : ∀ (c : Dev nD) (r : Fin 7), k0_off7 c (BitVec.ofNat 32 r.val) = ![(blk false c (r.val + 1)).val, 0, 0, 0] := by decide +kernel
theorem off8_eq : ∀ (c : Dev nD) (r : Fin 7), k0_off8 c (BitVec.ofNat 32 r.val) = ![(blk true c (r.val + 1)).val, 0, 0, 0] := by decide +kernel
theorem off9_eq : ∀ (c : Dev nD) (r : Fin 7), k0_off9 c (BitVec.ofNat 32 r.val) = ![(blk false c (r.val + 1)).val, 1, 0, 0] := by decide +kernel
theorem off10_eq : ∀ (c : Dev nD) (r : Fin 7), k0_off10 c (BitVec.ofNat 32 r.val) = ![(blk true c (r.val + 1)).val, 1, 0, 0] := by decide +kernel
theorem off1_eq : ∀ (w : Bool) (c : Dev nD), k0_off1 c = ![(blk w c 0).val, 0, 0, 0] := by decide +kernel
theorem off2_eq : ∀ (w : Bool) (c : Dev nD), k0_off2 c = ![(blk w c 0).val, 1, 0, 0] := by decide +kernel

/-- The block hop `h` of stream `j` carries, as its transfers name it, -/
def oSend (c : Dev nD) (j : Fin 4) (h : Fin 7) : Slot (blk (way j) c h.val) (sub j) := match j with
  | 0 => ⟨k0_off3 c (BitVec.ofNat 32 h.val), off3_eq c h⟩
  | 1 => ⟨k0_off4 c (BitVec.ofNat 32 h.val), off4_eq c h⟩
  | 2 => ⟨k0_off5 c (BitVec.ofNat 32 h.val), off5_eq c h⟩
  | 3 => ⟨k0_off6 c (BitVec.ofNat 32 h.val), off6_eq c h⟩
/-- the block step `s` works on, as its load names it, -/
def oLoad (c : Dev nD) (j : Fin 4) (s : Fin 7) : Slot (blk (way j) c (s.val + 1)) (sub j) := match j with
  | 0 => ⟨k0_off7 c (BitVec.ofNat 32 s.val), off7_eq c s⟩
  | 1 => ⟨k0_off8 c (BitVec.ofNat 32 s.val), off8_eq c s⟩
  | 2 => ⟨k0_off9 c (BitVec.ofNat 32 s.val), off9_eq c s⟩
  | 3 => ⟨k0_off10 c (BitVec.ofNat 32 s.val), off10_eq c s⟩
/-- and the device's own block, as the first stores name it. -/
def oOwn (c : Dev nD) (j : Fin 4) : Slot (blk (way j) c 0) (sub j) := match j with
  | 0 => ⟨k0_off1 c, off1_eq false c⟩
  | 1 => ⟨k0_off1 c, off1_eq true c⟩
  | 2 => ⟨k0_off2 c, off2_eq false c⟩
  | 3 => ⟨k0_off2 c, off2_eq true c⟩

/-- The neighbours, as the program computes them. -/
def pDev (w : Bool) (c : Dev nD) : Dev nD := match w with
  | false => ⟨k0_dev3 c, k0_dev3_lt c⟩
  | true => ⟨k0_dev4 c, k0_dev4_lt c⟩
theorem pDev_eq (w : Bool) (c : Dev nD) : pDev w c = peer w c := by
  cases w
  · exact Fin.ext (k0_dev3_eq c)
  · exact Fin.ext (k0_dev4_eq c)

/-! ## The body as a chain -/

variable (c : Dev nD)

/-- Start hop `h` of the gather of stream `j`. -/
def agSend (j : Fin 4) (h : Fin 7) (k : P F) : P F :=
  opSend (pDev (way j) c) (xgS (way j) (oSend c j h)) (xgS (way j) (oSend c j h)) (xgS_exact _ _) (xgS_exact _ _) (dsem 0 j h) (dsem 1 j h) k
/-- Start the transfer of step `s`'s partial sum. -/
def rsSend (j : Fin 4) (s : ℕ) (k : P F) : P F :=
  opSend (pDev (way j) c) (acS (way j) (par s) (sub j)) (rsS (way j) (hop s) (sub j)) (acS_exact _ _ _) (rsS_exact _ _ _) (dsem 2 j (hop s)) (dsem 3 j (hop s)) k
def agWaitRecv (j : Fin 4) (h : Fin 7) (k : P F) : P F :=
  opWait (dsem 1 j h) (xgS (way j) (oSend c j h)) (xgS (way j) (oSend c j h)) (xgS_exact _ _) (xgS_exact _ _) k
def agWaitSend (j : Fin 4) (h : Fin 7) (k : P F) : P F :=
  opWait (dsem 0 j h) (xgS (way j) (oSend c j h)) (xgS (way j) (oSend c j h)) (xgS_exact _ _) (xgS_exact _ _) k
def rsWaitRecv (j : Fin 4) (s : ℕ) (k : P F) : P F :=
  opWait (dsem 3 j (hop s)) (acS (way j) (par s) (sub j)) (rsS (way j) (hop s) (sub j)) (acS_exact _ _ _) (rsS_exact _ _ _) k
def rsWaitSend (j : Fin 4) (s : ℕ) (k : P F) : P F :=
  opWait (dsem 2 j (hop s)) (rsS (way j) (hop s) (sub j)) (acS (way j) (par s) (sub j)) (rsS_exact _ _ _) (acS_exact _ _ _) k

/-- The end of a step: the partial sum `p` joined with what arrived, stored and sent on. -/
def turn (j : Fin 4) (s : ℕ) (p : FVec F S128x512 .f32) (k : P F) : P F := match s with
  | 0 => opStoreAc (way j) (par 0) (sub j) (first p) (rsSend c j 0 k)
  | 1 => rsWaitRecv j 0 (opLoadRs (way j) (hop 0) (sub j) fun r =>
      opStoreAc (way j) (par 1) (sub j) (later p (flat r)) (rsSend c j 1 k))
  | s + 2 => rsWaitSend j s (rsWaitRecv j (s + 1) (opLoadRs (way j) (hop (s + 1)) (sub j) fun r =>
      opStoreAc (way j) (par (s + 2)) (sub j) (later p (flat r)) (rsSend c j (s + 2) k)))

/-- The forward of a step: every received block but the last is passed on. -/
def fwd (j : Fin 4) (s : ℕ) (k : P F) : P F := if s < 6 then agSend c j (hop (s + 1)) k else k

/-- Step `s` of stream `j`. -/
def step (j : Fin 4) (s : ℕ) (k : P F) : P F :=
  agWaitRecv c j (hop s) (fwd c j s (opLoadXg (way j) (oLoad c j (hop s)) fun v => opLoadW fun w1 w2 => turn c j s (con (flat v) w1 w2) k))

/-- A round of the four streams. -/
def round (s : ℕ) (k : P F) : P F := step c 0 s (step c 1 s (step c 2 s (step c 3 s k)))

/-- Half of the device's own rows, stored in the result. -/
def own (a : ℕ) (inb : ∀ i, (![a, 0] : Fin 2 → ℕ) i + S256x512.size i ≤ S512x512.size i) (k : P F) : P F :=
  .op (.load xM (Rect.unit (s := S512x512) ![a, 0] S256x512.size inb).toLoadRect (View.loadsAt_vmem h_S256x512)) fun (x : Vec F S256x512 .bf16) =>
  opLoadW fun w1 w2 =>
  .op (.load oM (Rect.unit (s := S512x512) ![a, 0] S256x512.size inb).toLoadRect (View.loadsAt_vmem h_S256x512)) fun _ =>
  .op (.store oM (Rect.unit (s := S512x512) ![a, 0] S256x512.size inb) (con2 x w1 w2) Finset.univ (View.stores_vmem_bits_univ h_S256x512 rfl) (.inl rfl)) fun _ => k

theorem row_inb : ∀ j : Fin 4, ∀ i, (![row j, 0] : Fin 2 → ℕ) i + S128x512.size i ≤ S512x512.size i := by decide
abbrev rowR (j : Fin 4) : Rect S512x512 := Rect.unit (s := S512x512) ![row j, 0] S128x512.size (row_inb j)

/-- The device's own quarter put in the gather buffer. -/
def put (j : Fin 4) (k : P F) : P F :=
  .op (.load xM (rowR j).toLoadRect (View.loadsAt_vmem h_S128x512)) fun x =>
  opStoreXg (way j) (oOwn c j) (shapeCast S128x512 x shapeCasts_S128x512_S128x512 : FVec F S128x512 .bf16) k

/-- The last sum of a stream added to the result. -/
def addLast (j : Fin 4) (k : P F) : P F :=
  rsWaitRecv j 6 (.op (.load oM (rowR j).toLoadRect (View.loadsAt_vmem h_S128x512)) fun o =>
    opLoadRs (way j) (hop 6) (sub j) fun r =>
    .op (.load oM (rowR j).toLoadRect (View.loadsAt_vmem h_S128x512)) fun _ =>
    .op (.store oM (rowR j) (addf (shapeCast S128x512 o shapeCasts_S128x512_S128x512 : FVec F S128x512 .f32) (extf .f32 (flat r) bitsLt_bf16_f32)) Finset.univ (View.stores_vmem_bits_univ h_S128x512 rfl) (.inl rfl)) fun _ => k)

/-- The sends of a stream still under way, waited for. -/
def drain (j : Fin 4) (k : P F) : P F :=
  agWaitSend c j 0 (agWaitSend c j 1 (agWaitSend c j 2 (agWaitSend c j 3 (agWaitSend c j 4 (agWaitSend c j 5 (agWaitSend c j 6
    (rsWaitSend j 5 (rsWaitSend j 6 k))))))))

/-- The handshake with both neighbours. -/
def shake (k : P F) : P F :=
  .op (.semSignal ((⟨k0_dev1 c, k0_dev1_lt c⟩ : Dev nD), .tc) barS ((1#32).toInt)) fun _ =>
  .op (.semSignal ((⟨k0_dev2 c, k0_dev2_lt c⟩ : Dev nD), .tc) barS ((1#32).toInt)) fun _ =>
  .op (.semWait barS ((2#32).toInt)) fun _ => k

def body : P F := .op .deviceId fun c =>
  shake c (put c 0 (put c 2 (put c 1 (put c 3
    (agSend c 0 0 (agSend c 1 0 (agSend c 2 0 (agSend c 3 0
    (round c 0 (own 0 inb_S512x512_S256x512_0_0 (own 256 inb_S512x512_S256x512_256_0
    (round c 1 (round c 2 (round c 3 (round c 4 (round c 5 (round c 6
    (addLast 0 (addLast 1 (addLast 2 (addLast 3
    (drain c 0 (drain c 1 (drain c 2 (drain c 3 (.ret ⟨⟩))))))))))))))))))))))))))

set_option maxRecDepth 65536 in
theorem body_eq : bodyAt0 (F := F) t0_0 = body := by
  chain_rfl

end Cert.KernelRun

end
-- ==== Proof.Proto.lean ====
/-
# The protocol: cells, schedule, debts and levels

Each device has a barrier cell with two duties (one per neighbour) and, for each of the four kinds of transfer semaphore,
each stream and each hop, a cell of one duty. A transfer of a hop pays the sender's own cell (which gives the source back)
and the receiver's cell (which gives the landed slot, with what it holds). The barrier duty of a direction hands over the
landing slots of that direction's receiver.
-/
module

public import proofs.«01_k».proof.Proof.Prog
public import Idealize.ShloMosaic.Lib.Pipeline.Launch
public import Idealize.ShloMosaic.Lib.Pipeline.Kit
public import Idealize.ShloMosaic.Lib.Rounds.Family

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring -/

theorem peer_peer (w : Bool) (c : Dev nD) : peer w (peer (!w) c) = c := by revert w c; decide
theorem peer_peer' (w : Bool) (c : Dev nD) : peer (!w) (peer w c) = c := by revert w c; decide
theorem blk_peer : ∀ (w : Bool) (c : Dev nD) (h : Fin 8), blk w (peer w c) (h.val + 1) = blk w c h.val := by decide
theorem blk_zero : ∀ (w : Bool) (c : Dev nD), blk w c 0 = c := by decide
theorem dev1_eq (c : Dev nD) : (⟨k0_dev1 c, k0_dev1_lt c⟩ : Dev nD) = peer true c := Fin.ext (k0_dev1_eq c)
theorem dev2_eq (c : Dev nD) : (⟨k0_dev2 c, k0_dev2_lt c⟩ : Dev nD) = peer false c := Fin.ext (k0_dev2_eq c)

/-- The devices carried one place along a direction. -/
def ring (w : Bool) : Dev nD ≃ Dev nD := ⟨peer w, peer (!w), peer_peer' w, peer_peer w⟩

/-! ## The cells -/

abbrev barCell (c : Dev nD) : GSem nD τ sig := ((c : Thread nD τ), .reg barS)
abbrev cell (k j : Fin 4) (h : Fin 7) (c : Dev nD) : GSem nD τ sig := ((c : Thread nD τ), .dma (dsem k j h))

/-- Kind, stream and hop of a transfer semaphore. -/
def dec (q : DmaSem sig) : Fin 4 × Fin 4 × Fin 7 :=
  (⟨(2 * ((q.val - 4) / 56) + (q.val - 4) / 14 % 2) % 4, Nat.mod_lt _ (by decide)⟩,
    ⟨(2 * ((q.val - 4) % 2) + (q.val - 4) / 28 % 2) % 4, Nat.mod_lt _ (by decide)⟩, ⟨((q.val - 4) % 14 / 2) % 7, Nat.mod_lt _ (by decide)⟩)
theorem dec_dsem : ∀ (k j : Fin 4) (h : Fin 7), dec (dsem k j h) = (k, j, h) := by decide +kernel
theorem dsem_ge (k j : Fin 4) (h : Fin 7) : 4 ≤ (dsem k j h).val := by unfold dsem; dsimp only; omega
theorem dsem_dec : ∀ q : DmaSem sig, 4 ≤ q.val → dsem (dec q).1 (dec q).2.1 (dec q).2.2 = q := by decide +kernel
theorem dsem_inj {k j k' j' : Fin 4} {h h' : Fin 7} (e : dsem k j h = dsem k' j' h') : k = k' ∧ j = j' ∧ h = h' := by
  have := congrArg dec e
  rw [dec_dsem, dec_dsem] at this
  exact ⟨congrArg (·.1) this, congrArg (·.2.1) this, congrArg (·.2.2) this⟩
theorem cell_inj {k j k' j' : Fin 4} {h h' : Fin 7} {c c' : Dev nD} (e : cell k j h c = cell k' j' h' c') : (k = k' ∧ j = j' ∧ h = h') ∧ c = c' := by
  have e2 : (SemLoc.dma (dsem k j h) : SemLoc sig) = .dma (dsem k' j' h') := congrArg Prod.snd e
  exact ⟨dsem_inj (SemLoc.dma.inj e2), congrArg (fun g : GSem nD τ sig => g.1.1) e⟩
theorem cell_ne_bar (k j : Fin 4) (h : Fin 7) (c d : Dev nD) : cell k j h c ≠ barCell d := fun e => by
  have e2 := congrArg Prod.snd e; cases e2
theorem bar_inj {c d : Dev nD} (e : barCell c = barCell d) : c = d := congrArg (fun g : GSem nD τ sig => g.1.1) e

/-- The credit of one slot. -/
abbrev N : ℕ := (acS false 0 0 : Memref sig .tc .vmem S128x512 .bf16).view.dmaCredit
theorem N_pos : 0 < N := View.dmaCredit_pos _ (by decide)
theorem credit_eq (M : Memref sig .tc .vmem S128x512 .bf16) : M.view.dmaCredit = N := rfl

/-! ## Contents -/

variable (F) in
/-- The staged inputs of every device. -/
structure Inp where
  x : Dev nD → Vec F S512x512 .bf16
  w1 : Dev nD → Vec F S512x2048 .bf16
  w2 : Dev nD → Vec F S2048x512 .bf16

variable (I : Inp F)

/-- The quarter of device `d`'s rows that stream `j` carries. -/
def X (j : Fin 4) (d : Dev nD) : FVec F S128x512 .bf16 :=
  shapeCast S128x512 ((xM : Memref sig .tc .vmem S512x512 .bf16).view.readAt (Elt F) (rowR j).toLoadRect (I.x d) : Vec F S128x512 .bf16) shapeCasts_S128x512_S128x512

/-- Device `c`'s share of the result for the rows of `X j d`. -/
def sh (j : Fin 4) (c d : Dev nD) : FVec F S128x512 .f32 := con (X I j d) (I.w1 c) (I.w2 c)

/-- What stream `j` of device `c` passes on at step `s`. -/
def Pv (j : Fin 4) (c : Dev nD) : ℕ → FVec F S128x512 .bf16
  | 0 => first (sh I j c (blk (way j) c 1))
  | s + 1 => later (sh I j c (blk (way j) c (s + 2))) (Pv j (peer (!way j) c) s)

/-! ## Points-tos of slots -/

/-- A slot of 128 by 512 held at device `c` with contents `f`, -/
def pt (c : Dev nD) (M : Memref sig .tc .vmem S128x512 .bf16) (q : PosShare TreeShare) (f : Buf (Elt F) (M.view.loc (c : Thread nD τ))) : sProp 𝕄 :=
  M.view.loc (c : Thread nD τ) ↦[M.view.set]{q} f
/-- with some contents, -/
def ptE (c : Dev nD) (M : Memref sig .tc .vmem S128x512 .bf16) (q : PosShare TreeShare) : sProp 𝕄 := iprop(∃ f, pt c M q f)
/-- with contents that read `v`. -/
def ptV (c : Dev nD) (M : Memref sig .tc .vmem S128x512 .bf16) (q : PosShare TreeShare) (v : FVec F S128x512 .bf16) : sProp 𝕄 :=
  iprop(∃ f, ⌜M.view.read (Elt F) f = v⌝ ∗ pt c M q f)

omit [FloatOps F] in
instance pt_storable (c : Dev nD) (M : Memref sig .tc .vmem S128x512 .bf16) (q) (f) : BI.Storable (upEmb : UEmb _ 𝕄) (pt (F := F) c M q f) := by unfold pt; infer_instance
omit [FloatOps F] in
instance ptE_storable (c : Dev nD) (M : Memref sig .tc .vmem S128x512 .bf16) (q) : BI.Storable (upEmb : UEmb _ 𝕄) (ptE (F := F) c M q) := by unfold ptE; infer_instance
omit [FloatOps F] in
instance ptV_storable (c : Dev nD) (M : Memref sig .tc .vmem S128x512 .bf16) (q) (v) : BI.Storable (upEmb : UEmb _ 𝕄) (ptV (F := F) c M q v) := by unfold ptV; infer_instance

omit [FloatOps F] in
theorem ptV_E (c : Dev nD) (M : Memref sig .tc .vmem S128x512 .bf16) (q : PosShare TreeShare) (v : FVec F S128x512 .bf16) : ptV c M q v ⊢ (ptE c M q : sProp 𝕄) := by
  unfold ptV ptE; iintro ⟨%f, -, H⟩; iexists f; iexact H

/-- The gather slot of stream `j` for the block at distance `h`, -/
abbrev xgB (j : Fin 4) (c : Dev nD) (h : ℕ) : Memref sig .tc .vmem S128x512 .bf16 := xgS (way j) (Slot.canon (blk (way j) c h) (sub j))
/-- its landing slot of step `h`, -/
abbrev rsB (j : Fin 4) (h : ℕ) : Memref sig .tc .vmem S128x512 .bf16 := rsS (way j) (hop h) (sub j)
/-- its accumulator slot at step `h`. -/
abbrev acB (j : Fin 4) (h : ℕ) : Memref sig .tc .vmem S128x512 .bf16 := acS (way j) (par h) (sub j)

/-! ## The schedule -/

/-- The streams of a direction. -/
abbrev lo (w : Bool) : Fin 4 := match w with | false => 0 | true => 1
abbrev hi (w : Bool) : Fin 4 := match w with | false => 2 | true => 3

/-- What a device hands to the one that sends it stream `j`: for each hop the slot of the gather buffer it lands in, -/
def giveA (p : Dev nD) (j : Fin 4) (h : ℕ) : sProp 𝕄 := iprop(ptE p (xgB j p (h + 1)) fullShare ∗ reached ER (cell 1 j (hop h) p) 0)
/-- for each step the landing slot of the partial sum. -/
def giveR (p : Dev nD) (j : Fin 4) (h : ℕ) : sProp 𝕄 := iprop(ptE p (rsB j h) fullShare ∗ reached ER (cell 3 j (hop h) p) 0)
def give (p : Dev nD) (j : Fin 4) : sProp 𝕄 := iprop(bigSep (Finset.range 7) (giveA p j) ∗ bigSep (Finset.range 7) (giveR p j))
def barPay (c : Dev nD) (w : Bool) : sProp 𝕄 := iprop(give (peer w c) (lo w) ∗ give (peer w c) (hi w))

/-- What a transfer's cell gives: the lent half of the source block, the landed block, the accumulator slot, the landed sum. -/
def xferPay (c : Dev nD) (k j : Fin 4) (h : Fin 7) : sProp 𝕄 := match k with
  | 0 => ptE c (xgB j c h.val) fullShare.left
  | 1 => ptV c (xgB j c (h.val + 1)) fullShare (X I j (blk (way j) c (h.val + 1)))
  | 2 => ptE c (acB j h.val) fullShare
  | 3 => ptV c (rsS (way j) h (sub j)) fullShare (Pv I j (peer (!way j) c) h.val)

omit [FloatOps F] in
instance giveA_storable (p : Dev nD) (j : Fin 4) (h : ℕ) : BI.Storable (upEmb : UEmb _ 𝕄) (giveA (F := F) p j h) := by unfold giveA; infer_instance
omit [FloatOps F] in
instance giveR_storable (p : Dev nD) (j : Fin 4) (h : ℕ) : BI.Storable (upEmb : UEmb _ 𝕄) (giveR (F := F) p j h) := by unfold giveR; infer_instance
omit [FloatOps F] in
instance give_storable (p : Dev nD) (j : Fin 4) : BI.Storable (upEmb : UEmb _ 𝕄) (give (F := F) p j) := by unfold give; infer_instance
omit [FloatOps F] in
instance barPay_storable (c : Dev nD) (w : Bool) : BI.Storable (upEmb : UEmb _ 𝕄) (barPay (F := F) c w) := by unfold barPay; infer_instance
instance xferPay_storable (c : Dev nD) (k j : Fin 4) (h : Fin 7) : BI.Storable (upEmb : UEmb _ 𝕄) (xferPay I c k j h) := by
  unfold xferPay; split <;> infer_instance

abbrev IsBar (g : GSem nD τ sig) : Prop := g.1.2 = .tc ∧ g.2 = .reg barS
abbrev IsXfer (g : GSem nD τ sig) : Prop := g.1.2 = .tc ∧ ∃ k j h, g.2 = .dma (dsem k j h)

/-- One round: a barrier cell's two duties of one unit, a transfer cell's one duty of a slot's credit. -/
def Rd : Rounds.Schedule (GSem nD τ sig) Bool 𝕄 where
  duties g r := if r = 0 ∧ IsBar g then Finset.univ else if r = 0 ∧ IsXfer g then {false} else ∅
  unitless _ := False
  amount g _ _ := match g.2 with | .reg _ => 1 | .dma _ => N
  payload g _ d := match g.2 with | .reg _ => barPay g.1.1 d | .dma q => xferPay I g.1.1 (dec q).1 (dec q).2.1 (dec q).2.2
  amount_pos g _ _ _ := by
    split
    · exact Nat.one_pos
    · exact N_pos

instance Rd_storable (g : GSem nD τ sig) (r : ℕ) (d : Bool) : BI.Storable (upEmb : UEmb _ 𝕄) ((Rd I).payload g r d) := by
  show BI.Storable upEmb (match g.2 with | .reg _ => barPay g.1.1 d | .dma q => xferPay I g.1.1 (dec q).1 (dec q).2.1 (dec q).2.2)
  split <;> infer_instance

theorem duties_bar (c : Dev nD) : (Rd I).duties (barCell c) 0 = Finset.univ := by dsimp only [Rd]; exact if_pos ⟨rfl, rfl, rfl⟩
theorem duties_cell (k j : Fin 4) (h : Fin 7) (c : Dev nD) : (Rd I).duties (cell k j h c) 0 = {false} := by
  dsimp only [Rd]; rw [if_neg (fun e => by cases e.2.2)]; exact if_pos ⟨rfl, rfl, k, j, h, rfl⟩
theorem duties_later (g : GSem nD τ sig) : ∀ r, 1 ≤ r → (Rd I).duties g r = ∅ :=
  fun r hr => by dsimp only [Rd]; rw [if_neg fun h => by omega, if_neg fun h => by omega]
theorem amount_bar (c : Dev nD) (d : Bool) : (Rd I).amount (barCell c) 0 d = 1 := rfl
theorem amount_cell (k j : Fin 4) (h : Fin 7) (c : Dev nD) (d : Bool) : (Rd I).amount (cell k j h c) 0 d = N := rfl
theorem expect_bar (c : Dev nD) : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_cell (k j : Fin 4) (h : Fin 7) (c : Dev nD) : (Rd I).expect (cell k j h c) 0 = N := by
  unfold Schedule.expect Schedule.amountOf; rw [duties_cell, Finset.sum_singleton, amount_cell]
theorem payload_bar (c : Dev nD) (w : Bool) : (Rd I).payload (barCell c) 0 w = barPay c w := rfl
theorem payload_cell (k j : Fin 4) (h : Fin 7) (c : Dev nD) (d : Bool) : (Rd I).payload (cell k j h c) 0 d = xferPay I c k j h := by
  show xferPay I c (dec (dsem k j h)).1 (dec (dsem k j h)).2.1 (dec (dsem k j h)).2.2 = _
  rw [dec_dsem]
theorem rest_bar (c : Dev nD) : bigSep ((Rd I).duties (barCell c) 0 \ ∅) (fun d => (Rd I).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_cell (k j : Fin 4) (h : Fin 7) (c : Dev nD) :
    bigSep ((Rd I).duties (cell k j h c) 0 \ ∅) (fun d => (Rd I).payload (cell k j h c) 0 d) = xferPay I c k j h := by
  rw [Finset.sdiff_empty, duties_cell, bigSep_singleton, payload_cell]

/-! ## What a device owes, and the levels -/

/-- The debt of the gather hop started at step `n = 4 s + j`, -/
def agT (c : Dev nD) (n : ℕ) : CellTallies nD τ sig Unit :=
  if n < 24 then tallyAt (cell 1 ⟨n % 4, Nat.mod_lt _ (by decide)⟩ (hop (n / 4 + 1)) (peer (way ⟨n % 4, Nat.mod_lt _ (by decide)⟩) c)) () N else 0
/-- and of its partial sum. -/
def rsT (c : Dev nD) (n : ℕ) : CellTallies nD τ sig Unit :=
  tallyAt (cell 3 ⟨n % 4, Nat.mod_lt _ (by decide)⟩ (hop (n / 4)) (peer (way ⟨n % 4, Nat.mod_lt _ (by decide)⟩) c)) () N
/-- The debts of the last `k` steps. -/
def owed (c : Dev nD) : ℕ → CellTallies nD τ sig Unit
  | 0 => 0
  | k + 1 => owed c k + rsT c (27 - k) + agT c (27 - k)
/-- The debt of the first hop of stream `j`. -/
def ag0 (c : Dev nD) (j : Fin 4) : CellTallies nD τ sig Unit := tallyAt (cell 1 j 0 (peer (way j) c)) () N
/-- The debts before the first hops of the last streams, -/
def owedS (c : Dev nD) : CellTallies nD τ sig Unit := owed c 28 + ag0 c 3 + ag0 c 2 + ag0 c 1 + ag0 c 0
/-- at the start. -/
def O₀ (c : Dev nD) : CellTallies nD τ sig Unit := owedS c + tallyAt (barCell (peer false c)) () 1 + tallyAt (barCell (peer true c)) () 1

def L (g : GSem nD τ sig) : Finset Unit := if g.1.2 = .tc then {()} else ∅
/-- Barrier cells at 1, the cell of a received hop above them by its place in the program's order, the other cells at 0. -/
def lv (g : GSem nD τ sig) (_ : Unit) : ℕ := match g.2 with
  | .reg _ => 1
  | .dma q => if q.val < 4 then 0 else
      if (dec q).1 = 1 then 2 + 4 * (dec q).2.2.val + (dec q).2.1.val else if (dec q).1 = 3 then 6 + 4 * (dec q).2.2.val + (dec q).2.1.val else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (k j : Fin 4) (h : Fin 7) (c : Dev nD) :
    lv (cell k j h c) () = if k = 1 then 2 + 4 * h.val + j.val else if k = 3 then 6 + 4 * h.val + j.val else 0 := by
  show (if (dsem k j h).val < 4 then 0 else _) = _
  rw [if_neg (Nat.not_lt.2 (dsem_ge k j h)), dec_dsem]
theorem lv_bar (c : Dev nD) : lv (barCell c) () = 1 := rfl

/-- Every debt in `O` is to a TensorCore's cell of level above `l`. -/
def Above (O : CellTallies nD τ sig Unit) (l : ℕ) : Prop := ∀ g u, 0 < O g u → g.1.2 = .tc ∧ l < lv g u

theorem Above.zero (l : ℕ) : Above 0 l := fun g u h => absurd h (by simp)
theorem Above.add {O P : CellTallies nD τ sig Unit} {l : ℕ} (hO : Above O l) (hP : Above P l) : Above (O + P) l := fun g u h => by
  rw [Pi.add_apply, Finsupp.add_apply] at h
  rcases Nat.eq_zero_or_pos (O g u) with e | e
  · exact hP g u (by omega)
  · exact hO g u e
theorem Above.tally {c : Dev nD} {sm : SemLoc sig} {n l : ℕ} (h : l < lv ((c : Thread nD τ), sm) ()) : Above (tallyAt ((c : Thread nD τ), sm) () n) l := fun g u hg => by
  rw [tallyAt_apply] at hg
  by_cases e : g = ((c : Thread nD τ), sm) ∧ u = ()
  · rw [e.1]; exact ⟨rfl, h⟩
  · rw [if_neg e] at hg; exact absurd hg (Nat.lt_irrefl 0)

theorem Above.agT (c : Dev nD) {n l : ℕ} (h : l < 6 + n) : Above (agT c n) l := by
  unfold KernelRun.agT; split
  · refine Above.tally ?_
    rw [lv_cell, if_pos rfl]; simp only [Nat.mod_eq_of_lt (show n / 4 + 1 < 7 by omega)]; omega
  · exact Above.zero l
theorem Above.rsT (c : Dev nD) {n l : ℕ} (hn : n < 28) (h : l < 6 + n) : Above (rsT c n) l := by
  unfold KernelRun.rsT
  refine Above.tally ?_
  rw [lv_cell, if_neg (by decide), if_pos rfl]; simp only [Nat.mod_eq_of_lt (show n / 4 < 7 by omega)]; omega
theorem Above.owed (c : Dev nD) : ∀ {k l : ℕ}, k ≤ 28 → l + k < 34 → Above (owed c k) l
  | 0, l, _, _ => Above.zero l
  | k + 1, l, hk, h => ((Above.owed c (by omega) (by omega)).add (Above.rsT c (by omega) (by omega))).add (Above.agT c (by omega))
theorem Above.ag0 (c : Dev nD) (j : Fin 4) {l : ℕ} (h : l < 2) : Above (ag0 c j) l := by
  unfold KernelRun.ag0
  refine Above.tally ?_
  rw [lv_cell, if_pos rfl]; omega
theorem Above.owedS (c : Dev nD) {l : ℕ} (h : l < 2) : Above (owedS c) l :=
  ((((Above.owed c le_rfl (by omega)).add (Above.ag0 c 3 h)).add (Above.ag0 c 2 h)).add (Above.ag0 c 1 h)).add (Above.ag0 c 0 h)
theorem Above.O₀ (c : Dev nD) : Above (O₀ c) 0 :=
  ((Above.owedS c (by omega)).add (Above.tally (by rw [lv_bar]; decide))).add (Above.tally (by rw [lv_bar]; decide))

omit [FloatOps F] in
theorem mayWait (c : Dev nD) (sm : SemLoc sig) {O : CellTallies nD τ sig Unit} (h : Above O (lv ((c : Thread nD τ), sm) ())) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-! ## The cells of the launch -/

/-- Every transfer cell, -/
def xferCells : Finset (GSem nD τ sig) :=
  Finset.univ.map ⟨fun x : Dev nD × Fin 4 × Fin 4 × Fin 7 => cell x.2.1 x.2.2.1 x.2.2.2 x.1, fun ⟨c, k, j, h⟩ ⟨c', k', j', h'⟩ e => by
    obtain ⟨⟨rfl, rfl, rfl⟩, rfl⟩ := cell_inj e; rfl⟩
/-- and every barrier cell. -/
def barCells : Finset (GSem nD τ sig) := Finset.univ.map ⟨barCell, fun _ _ e => bar_inj e⟩

theorem mem_xfer (k j : Fin 4) (h : Fin 7) (c : Dev nD) : cell k j h c ∈ barCells ∪ xferCells :=
  Finset.mem_union_right _ (Finset.mem_map.mpr ⟨(c, k, j, h), Finset.mem_univ _, rfl⟩)
theorem mem_bar (c : Dev nD) : barCell c ∈ barCells ∪ xferCells :=
  Finset.mem_union_left _ (Finset.mem_map.mpr ⟨c, Finset.mem_univ _, rfl⟩)

/-- The invariants of all cells, under the names `κ`, and the levels. -/
def ctx (κ : GSem nD τ sig → ℕ) : sProp 𝕄 := iprop((bigSep (barCells ∪ xferCells) fun g => cellInv ER (Rd I) (κ g) g) ∗ levAts L lv)
instance ctx_persistent (κ) : BI.Persistent (ctx I κ) := by unfold ctx; infer_instance

theorem inv_at (κ : GSem nD τ sig → ℕ) {g : GSem nD τ sig} (hg : g ∈ barCells ∪ xferCells) : ctx I κ ⊢ cellInv ER (Rd I) (κ g) g := by
  unfold ctx; iintro ⟨H, -⟩; iapply (show (bigSep (barCells ∪ xferCells) fun g => (cellInv ER (Rd I) (κ g) g : sProp 𝕄)) ⊢ cellInv ER (Rd I) (κ g) g from bigSep_elim hg); iexact H

/-- Device `c` owing `O`, whatever it has waited for. -/
def ow (c : Dev nD) (O : CellTallies nD τ sig Unit) : sProp 𝕄 := iprop(∃ W, owes (c : Thread nD τ) O W)

end Cert.KernelRun

end
-- ==== Proof.Ops.lean ====
/-
# One rule per operation of the chain
-/
module

public import proofs.«01_k».proof.Proof.Proto

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (κ : GSem nD τ sig → ℕ)

/-- The weakest precondition of a rest `k` of device `c`'s body. -/
def wpc (c : Dev nD) (k : P F) (Q : PUnit → sProp 𝕄) : sProp 𝕄 := wp frame (wpE (defs₀ (F := F)) 𝒱₀ (c : Thread nD τ) none) Set.univ k Q

/-! ## Waits and transfers -/

/-- A wait on a transfer cell gives what the transfer pays there. -/
theorem wp_opWait (c : Dev nD) (k j : Fin 4) (h : Fin 7) (a b : Memref sig .tc .vmem S128x512 .bf16) (ha : a.view.WordExact) (hb : b.view.WordExact)
    {O : CellTallies nD τ sig Unit} (hO : Above O (lv (cell k j h c) ())) (K : P F) (Q : PUnit → sProp 𝕄) :
    iprop(ctx I κ ∗ (atPos ER (cell k j h c) 0 ∅ 0 ∗ cred (tallyAt (cell k j h c) () N)) ∗ ow c O)
      ⊢ iprop(((atPos ER (cell k j h c) 1 ∅ 0 ∗ xferPay I c k j h ∗ ow c O) -∗ wpc c K Q) -∗ wpc c (opWait (dsem k j h) a b ha hb K) Q) := by
  unfold ow opWait wpc
  iintro ⟨#Hctx, ⟨Hat, Hc⟩, ⟨%W, HO⟩⟩ Hk
  iapply (Rounds.wp_wait_rest_token 𝒱₀ ER (Rd I) (c : Thread nD τ) none (κ := κ (cell k j h c))
      (wpE_waitDma2_eq 𝒱₀ (c : Thread nD τ) none Set.univ) (Set.mem_univ _) () (O := O) (W := W) (R := 0) (m := 0) (T := ∅)
      (by rw [Nat.zero_add, expect_cell])) $$ [Hc HO Hat]
  · isplitr; · iapply (inv_at I κ (mem_xfer k j h c)); iexact Hctx
    isplitl [Hc]; · iexact Hc
    isplitl [HO]; · iexact HO
    isplitr
    · iapply (mayWait (F := F) c _ hO)
      unfold ctx; icases Hctx with ⟨-, #Hl⟩; iexact Hl
    iexact Hat
  iintro ⟨HO, Hat, -, Hpay⟩
  ihave Hp := (Entails.of_eq (rest_cell I k j h c)) $$ Hpay
  iapply Hk
  isplitl [Hat]; · iexact Hat
  isplitl [Hp]; · iexact Hp
  iexists _; iexact HO

/-- A transfer: the source's share and the destination go in; the sender's credit comes out. -/
theorem wp_opSend (c p : Dev nD) (k₁ k₂ j : Fin 4) (h : Fin 7) (a b : Memref sig .tc .vmem S128x512 .bf16) (ha : a.view.WordExact) (hb : b.view.WordExact)
    (n : Dev nD) (hn : n = p) (q : PosShare TreeShare) (fs : Buf (Elt F) (a.view.loc (c : Thread nD τ))) (fd : Buf (Elt F) (b.view.loc (p : Thread nD τ)))
    (hpay₁ : pt c a q fs ⊢ xferPay I c k₁ j h)
    (hpay₂ : pt p b fullShare (b.view.write (Elt F) fd (a.view.read (Elt F) fs) Finset.univ) ⊢ xferPay I p k₂ j h)
    (O : CellTallies nD τ sig Unit) (K : P F) (Q : PUnit → sProp 𝕄) :
    iprop(ctx I κ ∗ pt c a q fs ∗ pt p b fullShare fd ∗ ow c (O + tallyAt (cell k₂ j h p) () N)
        ∗ (dutyTok ER (cell k₁ j h c) 0 false ∗ reached ER (cell k₁ j h c) 0) ∗ dutyTok ER (cell k₂ j h p) 0 false ∗ reached ER (cell k₂ j h p) 0)
      ⊢ iprop(((cred (tallyAt (cell k₁ j h c) () N) ∗ ow c O) -∗ wpc c K Q) -∗ wpc c (opSend n a b ha hb (dsem k₁ j h) (dsem k₂ j h) K) Q) := by
  subst hn
  unfold ow opSend pt wpc
  iintro ⟨#Hctx, Hs, Hd, ⟨%W, HO⟩, ⟨Ht1, Hr1⟩, Ht2, Hr2⟩ Hk
  iapply (Rounds.wp_send_pointsTo 𝒱₀ ER (Rd I) (c : Thread nD τ) none (κ₁ := κ (cell k₁ j h c)) (κ₂ := κ (cell k₂ j h n))
    (r₁ := 0) (r₂ := 0) (d₁ := false) (d₂ := false) (fd := fd)
    (by rw [duties_cell]; exact Finset.mem_singleton_self _) (by rw [duties_cell]; exact Finset.mem_singleton_self _)
    () () N rfl (amount_cell I k₁ j h c false) (amount_cell I k₂ j h n false) O rfl (W := W)
    (by rw [payload_cell]; exact hpay₁) (by rw [payload_cell]; exact hpay₂)) $$ [Hs Hd HO Ht1 Hr1 Ht2 Hr2]
  · isplitr; · iapply (inv_at I κ (mem_xfer k₁ j h c)); iexact Hctx
    isplitr; · iapply (inv_at I κ (mem_xfer k₂ j h n)); iexact Hctx
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

/-! ## Slots read and written -/

omit [FloatOps F] in
theorem flat_unflat (v : FVec F S128x512 .bf16) : flat (unflat v) = v := by
  funext i
  show v (Shape.reshapeEquiv _ (Shape.reshapeEquiv _ i)) = v i
  rw [Shape.reshapeEquiv_reshapeEquiv, Shape.reshapeEquiv_self]

variable (c : Dev nD)

section Xg
variable (w : Bool) {b : Fin 8} {u : Fin 2} (x : Slot b u)

omit [FloatOps F] in
theorem pt_xgS (q : PosShare TreeShare) (f) : (pt c (xgS w x) q f : sProp 𝕄) = (((xgM w).access x.rect).loc (c : Thread nD τ) ↦[((xgM w).access x.rect).set]{q} f) := by
  unfold pt; rw [show (xgS w x).view.set = ((xgM w).access x.rect).set from View.set_reshape _ _]; rfl
theorem ptE_xgS (q : PosShare TreeShare) : (ptE c (xgS w x) q : sProp 𝕄) = iprop(∃ f : Buf (Elt F) (((xgM w).access x.rect).loc (c : Thread nD τ)), (((xgM w).access x.rect).loc (c : Thread nD τ) ↦[((xgM w).access x.rect).set]{q} f)) := by
  unfold ptE; simp only [pt_xgS]; rfl
theorem ptV_xgS (q : PosShare TreeShare) (v) : (ptV c (xgS w x) q v : sProp 𝕄)
    = iprop(∃ f : Buf (Elt F) (((xgM w).access x.rect).loc (c : Thread nD τ)), ⌜flat (((xgM w).access x.rect).read (Elt F) f) = v⌝ ∗ (((xgM w).access x.rect).loc (c : Thread nD τ) ↦[((xgM w).access x.rect).set]{q} f)) := by
  unfold ptV; simp only [pt_xgS]; rfl

/-- A load of a gather slot from any share of it. -/
theorem wp_loadXg (Q : PUnit → sProp 𝕄) {q : PosShare TreeShare} {v : FVec F S128x512 .bf16} (K : Vec F S1x1x128x512 .bf16 → P F) :
    ptV c (xgS w x) q v ⊢ iprop((∀ z, ⌜flat z = v⌝ -∗ ptV c (xgS w x) q v -∗ wpc c (K z) Q) -∗ wpc c (opLoadXg w x K) Q) := by
  rw [ptV_xgS]; unfold opLoadXg wpc
  iintro ⟨%f, %hf, H⟩ Hk
  iapply (wp_load_rect 𝒱₀ (c : Thread nD τ) none Set.univ (m := xgM w) (r := x.rect) (S := ((xgM w).access x.rect).set) subset_rfl) $$ H
  iintro H
  iapply Hk $$ %_
  · ipureintro; exact hf
  iexists f
  isplitr; · ipureintro; exact hf
  iexact H

/-- A store of a whole gather slot. -/
theorem wp_storeXg (Q : PUnit → sProp 𝕄) (v : FVec F S128x512 .bf16) (K : P F) :
    ptE c (xgS w x) fullShare ⊢ iprop((ptV c (xgS w x) fullShare v -∗ wpc c K Q) -∗ wpc c (opStoreXg w x v K) Q) := by
  rw [ptE_xgS, ptV_xgS]; unfold opStoreXg wpc
  iintro ⟨%f, H⟩ Hk
  iapply (wp_load_rect 𝒱₀ (c : Thread nD τ) none Set.univ (m := xgM w) (r := x.rect) (S := ((xgM w).access x.rect).set) subset_rfl) $$ H
  iintro H
  iapply (wp_store 𝒱₀ (c : Thread nD τ) none Set.univ (m := xgM w) (r := x.rect) (Mk := Finset.univ) (S := ((xgM w).access x.rect).set) subset_rfl) $$ H
  iintro H
  iapply Hk
  iexists _
  isplitr
  · ipureintro
    exact (show flat (((xgM w).access x.rect).read (Elt F) (((xgM w).access x.rect).write (Elt F) f (unflat v) Finset.univ)) = v by
      rw [View.read_write_univ]; exact flat_unflat v)
  iexact H

end Xg

section Ac
variable (w : Bool) (b u : Fin 2)

omit [FloatOps F] in
theorem pt_acS (q : PosShare TreeShare) (f) : (pt c (acS w b u) q f : sProp 𝕄) = (((acM w).access (acR b u)).loc (c : Thread nD τ) ↦[((acM w).access (acR b u)).set]{q} f) := by
  unfold pt; rw [show (acS w b u).view.set = ((acM w).access (acR b u)).set from View.set_reshape _ _]; rfl
theorem ptE_acS (q : PosShare TreeShare) : (ptE c (acS w b u) q : sProp 𝕄) = iprop(∃ f : Buf (Elt F) (((acM w).access (acR b u)).loc (c : Thread nD τ)), (((acM w).access (acR b u)).loc (c : Thread nD τ) ↦[((acM w).access (acR b u)).set]{q} f)) := by
  unfold ptE; simp only [pt_acS]; rfl
theorem ptV_acS (q : PosShare TreeShare) (v) : (ptV c (acS w b u) q v : sProp 𝕄)
    = iprop(∃ f : Buf (Elt F) (((acM w).access (acR b u)).loc (c : Thread nD τ)), ⌜flat (((acM w).access (acR b u)).read (Elt F) f) = v⌝ ∗ (((acM w).access (acR b u)).loc (c : Thread nD τ) ↦[((acM w).access (acR b u)).set]{q} f)) := by
  unfold ptV; simp only [pt_acS]; rfl

/-- A store of a whole accumulator slot. -/
theorem wp_storeAc (Q : PUnit → sProp 𝕄) (v : FVec F S128x512 .bf16) (K : P F) :
    ptE c (acS w b u) fullShare ⊢ iprop((ptV c (acS w b u) fullShare v -∗ wpc c K Q) -∗ wpc c (opStoreAc w b u v K) Q) := by
  rw [ptE_acS, ptV_acS]; unfold opStoreAc wpc
  iintro ⟨%f, H⟩ Hk
  iapply (wp_load_rect 𝒱₀ (c : Thread nD τ) none Set.univ (m := acM w) (r := acR b u) (S := ((acM w).access (acR b u)).set) subset_rfl) $$ H
  iintro H
  iapply (wp_store 𝒱₀ (c : Thread nD τ) none Set.univ (m := acM w) (r := acR b u) (Mk := Finset.univ) (S := ((acM w).access (acR b u)).set) subset_rfl) $$ H
  iintro H
  iapply Hk
  iexists _
  isplitr
  · ipureintro
    exact (show flat (((acM w).access (acR b u)).read (Elt F) (((acM w).access (acR b u)).write (Elt F) f (unflat v) Finset.univ)) = v by
      rw [View.read_write_univ]; exact flat_unflat v)
  iexact H

end Ac

omit [FloatOps F] in
theorem pt_rsS (w : Bool) (b : Fin 7) (u : Fin 2) (q : PosShare TreeShare) (f) : (pt c (rsS w b u) q f : sProp 𝕄) = (((rsM w).access (rsR b u)).loc (c : Thread nD τ) ↦[((rsM w).access (rsR b u)).set]{q} f) := by
  unfold pt; rw [show (rsS w b u).view.set = ((rsM w).access (rsR b u)).set from View.set_reshape _ _]; rfl
theorem ptE_rsS (w : Bool) (b : Fin 7) (u : Fin 2) (q : PosShare TreeShare) : (ptE c (rsS w b u) q : sProp 𝕄) = iprop(∃ f : Buf (Elt F) (((rsM w).access (rsR b u)).loc (c : Thread nD τ)), (((rsM w).access (rsR b u)).loc (c : Thread nD τ) ↦[((rsM w).access (rsR b u)).set]{q} f)) := by
  unfold ptE; simp only [pt_rsS]; rfl
theorem ptV_rsS (w : Bool) (b : Fin 7) (u : Fin 2) (q : PosShare TreeShare) (v) : (ptV c (rsS w b u) q v : sProp 𝕄)
    = iprop(∃ f : Buf (Elt F) (((rsM w).access (rsR b u)).loc (c : Thread nD τ)), ⌜flat (((rsM w).access (rsR b u)).read (Elt F) f) = v⌝ ∗ (((rsM w).access (rsR b u)).loc (c : Thread nD τ) ↦[((rsM w).access (rsR b u)).set]{q} f)) := by
  unfold ptV; simp only [pt_rsS]; rfl

/-- A load of a landing slot. -/
theorem wp_loadRs (Q : PUnit → sProp 𝕄) (w : Bool) (b : Fin 7) (u : Fin 2) {q : PosShare TreeShare} {v : FVec F S128x512 .bf16} (K : Vec F S1x1x128x512 .bf16 → P F) :
    ptV c (rsS w b u) q v ⊢ iprop((∀ z, ⌜flat z = v⌝ -∗ ptV c (rsS w b u) q v -∗ wpc c (K z) Q) -∗ wpc c (opLoadRs w b u K) Q) := by
  rw [ptV_rsS]; unfold opLoadRs wpc
  iintro ⟨%f, %hf, H⟩ Hk
  iapply (wp_load_rect 𝒱₀ (c : Thread nD τ) none Set.univ (m := rsM w) (r := rsR b u) (S := ((rsM w).access (rsR b u)).set) subset_rfl) $$ H
  iintro H
  iapply Hk $$ %_
  · ipureintro; exact hf
  iexists f
  isplitr; · ipureintro; exact hf
  iexact H

/-! ## The weights -/

/-- The staged inputs of device `c`, held. -/
def inp (c : Dev nD) : sProp 𝕄 :=
  iprop(((c : Thread nD τ).loc cc0_stg0_0 ↦{fullShare} I.x c) ∗ ((c : Thread nD τ).loc cc0_stg1_0 ↦{fullShare} I.w1 c) ∗ ((c : Thread nD τ).loc cc0_stg2_0 ↦{fullShare} I.w2 c))

omit [FloatOps F] in
theorem hz : (![0, 0] : Fin 2 → Nat) = fun _ => 0 := funext fun a => by fin_cases a <;> rfl

theorem wp_loadW (Q : PUnit → sProp 𝕄) (K : Vec F S512x2048 .bf16 → Vec F S2048x512 .bf16 → P F) :
    inp I c ⊢ iprop((inp I c -∗ wpc c (K (I.w1 c) (I.w2 c)) Q) -∗ wpc c (opLoadW K) Q) := by
  unfold inp opLoadW wpc
  iintro ⟨Hx, H1, H2⟩ Hk
  iapply (wp_load 𝒱₀ (c : Thread nD τ) none Set.univ (m := w1M) (Finset.subset_univ _)) $$ H1; iintro H1
  iapply (wp_load 𝒱₀ (c : Thread nD τ) none Set.univ (m := w2M) (Finset.subset_univ _)) $$ H2; iintro H2
  rw [show (w1M : Memref sig .tc .vmem S512x2048 .bf16).view.readAt (Elt F) (Rect.unit (s := S512x2048) ![0, 0] S512x2048.size inb_S512x2048_S512x2048_0_0).toLoadRect (I.w1 c) = I.w1 c
      from Memref.readAt_unit_zero (Elt F) cc0_stg1_0 hz _ _,
    show (w2M : Memref sig .tc .vmem S2048x512 .bf16).view.readAt (Elt F) (Rect.unit (s := S2048x512) ![0, 0] S2048x512.size inb_S2048x512_S2048x512_0_0).toLoadRect (I.w2 c) = I.w2 c
      from Memref.readAt_unit_zero (Elt F) cc0_stg2_0 hz _ _]
  iapply Hk
  isplitl [Hx]; · iexact Hx
  isplitl [H1] <;> iassumption

/-- A load of rows of `x`. -/
theorem wp_loadX (Q : PUnit → sProp 𝕄) (r : Rect S512x512) (hl : (xM : Memref sig .tc .vmem S512x512 .bf16).view.LoadsAt r.toLoadRect) (K : (r.toLoadRect.shape.Idx → Elt F .bf16) → P F) :
    inp I c ⊢ iprop((inp I c -∗ wpc c (K ((xM : Memref sig .tc .vmem S512x512 .bf16).view.readAt (Elt F) r.toLoadRect (I.x c))) Q) -∗ wpc c (.op (.load xM r.toLoadRect hl) K) Q) := by
  unfold inp wpc
  iintro ⟨Hx, H1, H2⟩ Hk
  iapply (wp_load 𝒱₀ (c : Thread nD τ) none Set.univ (m := xM) (Finset.subset_univ _)) $$ Hx; iintro Hx
  iapply Hk
  isplitl [Hx]; · iexact Hx
  isplitl [H1] <;> iassumption

end Cert.KernelRun

end
-- ==== Proof.Step.lean ====
/-
# A step of a stream

What a stream holds before step `s` is, hop by hop, what is still to do, what is under way and what is done. A step moves
one hop of each along.
-/
module

public import proofs.«01_k».proof.Proof.Ops

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (κ : GSem nD τ sig → ℕ)

omit [FloatOps F] in
theorem ico_cons {a b : ℕ} (h : a < b) (Φ : ℕ → sProp 𝕄) : bigSep (Finset.Ico a b) Φ = iprop(Φ a ∗ bigSep (Finset.Ico (a + 1) b) Φ) := by
  rw [show Finset.Ico a b = insert a (Finset.Ico (a + 1) b) by ext; simp only [Finset.mem_insert, Finset.mem_Ico]; omega]; exact bigSep_insert (by simp)
omit [FloatOps F] in
theorem ico_snoc {a b : ℕ} (h : a ≤ b) (Φ : ℕ → sProp 𝕄) : bigSep (Finset.Ico a (b + 1)) Φ = iprop(Φ b ∗ bigSep (Finset.Ico a b) Φ) := by
  rw [show Finset.Ico a (b + 1) = insert b (Finset.Ico a b) by ext; simp only [Finset.mem_insert, Finset.mem_Ico]; omega]; exact bigSep_insert (by simp)
omit [FloatOps F] in
theorem ico_nil {a b : ℕ} (h : b ≤ a) (Φ : ℕ → sProp 𝕄) : bigSep (Finset.Ico a b) Φ = iprop(emp) := by
  rw [Finset.Ico_eq_empty_of_le h]; rfl

theorem hop_val {h : ℕ} (hh : h < 7) : (hop h).val = h := Nat.mod_eq_of_lt hh

/-! ## What each hop holds -/

/-- The gather hop to be received, -/
def hA (c : Dev nD) (j : Fin 4) (h : ℕ) : sProp 𝕄 := iprop(atPos ER (cell 1 j (hop h) c) 0 ∅ 0 ∗ cred (tallyAt (cell 1 j (hop h) c) () N))
/-- received. -/
def hA' (c : Dev nD) (j : Fin 4) (h : ℕ) : sProp 𝕄 := iprop(atPos ER (cell 1 j (hop h) c) 1 ∅ 0)
/-- The tickets of the sender's own cell of kind `k`. -/
def tick (k : Fin 4) (c : Dev nD) (j : Fin 4) (h : ℕ) : sProp 𝕄 :=
  iprop(atPos ER (cell k j (hop h) c) 0 ∅ 0 ∗ dutyTok ER (cell k j (hop h) c) 0 false ∗ reached ER (cell k j (hop h) c) 0)
/-- The gather hop to be sent, -/
def hB (c : Dev nD) (j : Fin 4) (h : ℕ) : sProp 𝕄 :=
  iprop(tick 0 c j h ∗ dutyTok ER (cell 1 j (hop h) (peer (way j) c)) 0 false ∗ giveA (peer (way j) c) j h)
/-- under way. -/
def hB' (c : Dev nD) (j : Fin 4) (h : ℕ) : sProp 𝕄 := iprop(atPos ER (cell 0 j (hop h) c) 0 ∅ 0 ∗ cred (tallyAt (cell 0 j (hop h) c) () N))
/-- The partial sum to be sent, -/
def hC (c : Dev nD) (j : Fin 4) (h : ℕ) : sProp 𝕄 :=
  iprop(tick 2 c j h ∗ dutyTok ER (cell 3 j (hop h) (peer (way j) c)) 0 false ∗ giveR (peer (way j) c) j h)
/-- under way, -/
def hC' (c : Dev nD) (j : Fin 4) (h : ℕ) : sProp 𝕄 := iprop(atPos ER (cell 2 j (hop h) c) 0 ∅ 0 ∗ cred (tallyAt (cell 2 j (hop h) c) () N))
/-- sent. -/
def hC'' (c : Dev nD) (j : Fin 4) (h : ℕ) : sProp 𝕄 := iprop(atPos ER (cell 2 j (hop h) c) 1 ∅ 0)
/-- The partial sum to be received, -/
def hD (c : Dev nD) (j : Fin 4) (h : ℕ) : sProp 𝕄 := iprop(atPos ER (cell 3 j (hop h) c) 0 ∅ 0 ∗ cred (tallyAt (cell 3 j (hop h) c) () N))
/-- received and used. -/
def hD' (c : Dev nD) (j : Fin 4) (h : ℕ) : sProp 𝕄 := iprop(atPos ER (cell 3 j (hop h) c) 1 ∅ 0 ∗ ptE c (rsB j h) fullShare)
/-- The share of a gather slot: half of it once it is passed on, all of the last. -/
abbrev kept (h : ℕ) : PosShare TreeShare := if h < 7 then fullShare.right else fullShare
/-- A block used. -/
def hE (c : Dev nD) (j : Fin 4) (h : ℕ) : sProp 𝕄 := ptE c (xgB j c h) (kept h)
/-- A free accumulator slot. -/
def hG (c : Dev nD) (j : Fin 4) (h : ℕ) : sProp 𝕄 := ptE c (acB j h) fullShare

/-- The gather side of a stream before step `s`, -/
def stU (c : Dev nD) (j : Fin 4) (s : ℕ) : sProp 𝕄 :=
  iprop(bigSep (Finset.Ico s 7) (hA c j) ∗ bigSep (Finset.Ico 0 s) (hA' c j) ∗ bigSep (Finset.Ico (s + 1) 7) (hB c j)
    ∗ bigSep (Finset.Ico 0 (min (s + 1) 7)) (hB' c j) ∗ bigSep (Finset.Ico 0 (s + 1)) (hE c j))
/-- and the reduction side. -/
def stT (c : Dev nD) (j : Fin 4) (s : ℕ) : sProp 𝕄 :=
  iprop(bigSep (Finset.Ico s 7) (hC c j) ∗ bigSep (Finset.Ico (s - 2) s) (hC' c j) ∗ bigSep (Finset.Ico 0 (s - 2)) (hC'' c j)
    ∗ bigSep (Finset.Ico (s - 1) 7) (hD c j) ∗ bigSep (Finset.Ico 0 (s - 1)) (hD' c j) ∗ bigSep (Finset.Ico s 2) (hG c j))

/-! ## The operations of a stream -/

variable (c : Dev nD) (j : Fin 4)

theorem wp_agWaitRecv (Q : PUnit → sProp 𝕄) {s : ℕ} (hs : s < 7) {O : CellTallies nD τ sig Unit} (hO : Above O (2 + 4 * s + j.val)) (K : P F) :
    iprop(ctx I κ ∗ hA c j s ∗ ow c O)
      ⊢ iprop(((hA' c j s ∗ ptV c (xgB j c (s + 1)) fullShare (X I j (blk (way j) c (s + 1))) ∗ ow c O) -∗ wpc c K Q) -∗ wpc c (agWaitRecv c j (hop s) K) Q) := by
  have := wp_opWait I κ c 1 j (hop s) (xgS (way j) (oSend c j (hop s))) (xgS (way j) (oSend c j (hop s))) (xgS_exact _ _) (xgS_exact _ _) (O := O)
    (by rw [lv_cell, if_pos rfl, hop_val hs]; exact hO) K Q
  rw [show xferPay I c 1 j (hop s) = ptV c (xgB j c (s + 1)) fullShare (X I j (blk (way j) c (s + 1))) by unfold xferPay; dsimp only; rw [Nat.mod_eq_of_lt hs]; try rfl] at this
  exact this

theorem wp_rsWaitRecv (Q : PUnit → sProp 𝕄) {s : ℕ} (hs : s < 7) {O : CellTallies nD τ sig Unit} (hO : Above O (6 + 4 * s + j.val)) (K : P F) :
    iprop(ctx I κ ∗ hD c j s ∗ ow c O)
      ⊢ iprop(((atPos ER (cell 3 j (hop s) c) 1 ∅ 0 ∗ ptV c (rsB j s) fullShare (Pv I j (peer (!way j) c) s) ∗ ow c O) -∗ wpc c K Q) -∗ wpc c (rsWaitRecv j s K) Q) := by
  have := wp_opWait I κ c 3 j (hop s) (acS (way j) (par s) (sub j)) (rsS (way j) (hop s) (sub j)) (acS_exact _ _ _) (rsS_exact _ _ _) (O := O)
    (by rw [lv_cell, if_neg (by decide), if_pos rfl, hop_val hs]; exact hO) K Q
  rw [show xferPay I c 3 j (hop s) = ptV c (rsB j s) fullShare (Pv I j (peer (!way j) c) s) by unfold xferPay; dsimp only; rw [Nat.mod_eq_of_lt hs]; try rfl] at this
  exact this

theorem wp_rsWaitSend (Q : PUnit → sProp 𝕄) {s : ℕ} (hs : s < 7) {O : CellTallies nD τ sig Unit} (hO : Above O 0) (K : P F) :
    iprop(ctx I κ ∗ hC' c j s ∗ ow c O)
      ⊢ iprop(((hC'' c j s ∗ hG c j s ∗ ow c O) -∗ wpc c K Q) -∗ wpc c (rsWaitSend j s K) Q) := by
  have := wp_opWait I κ c 2 j (hop s) (rsS (way j) (hop s) (sub j)) (acS (way j) (par s) (sub j)) (rsS_exact _ _ _) (acS_exact _ _ _) (O := O)
    (by rw [lv_cell, if_neg (by decide), if_neg (by decide)]; exact hO) K Q
  rw [show xferPay I c 2 j (hop s) = hG c j s by unfold xferPay; dsimp only; rw [Nat.mod_eq_of_lt hs]; try rfl] at this
  exact this

theorem wp_agWaitSend (Q : PUnit → sProp 𝕄) {s : ℕ} (hs : s < 7) {O : CellTallies nD τ sig Unit} (hO : Above O 0) (K : P F) :
    iprop(ctx I κ ∗ hB' c j s ∗ ow c O)
      ⊢ iprop(((atPos ER (cell 0 j (hop s) c) 1 ∅ 0 ∗ ptE c (xgB j c s) fullShare.left ∗ ow c O) -∗ wpc c K Q) -∗ wpc c (agWaitSend c j (hop s) K) Q) := by
  have := wp_opWait I κ c 0 j (hop s) (xgS (way j) (oSend c j (hop s))) (xgS (way j) (oSend c j (hop s))) (xgS_exact _ _) (xgS_exact _ _) (O := O)
    (by rw [lv_cell, if_neg (by decide), if_neg (by decide)]; exact hO) K Q
  rw [show xferPay I c 0 j (hop s) = ptE c (xgB j c s) fullShare.left by unfold xferPay; dsimp only; rw [Nat.mod_eq_of_lt hs]; try rfl] at this
  exact this

/-- The debt of the gather hop `s`. -/
abbrev tA (s : ℕ) : CellTallies nD τ sig Unit := tallyAt (cell 1 j (hop s) (peer (way j) c)) () N
abbrev tR (s : ℕ) : CellTallies nD τ sig Unit := tallyAt (cell 3 j (hop s) (peer (way j) c)) () N

omit [FloatOps F] in
/-- A slot's two halves share its contents. -/
theorem pt_halves (M : Memref sig .tc .vmem S128x512 .bf16) (f : Buf (Elt F) (M.view.loc (c : Thread nD τ))) :
    pt c M fullShare f ⊣⊢ (iprop(pt c M fullShare.left f ∗ pt c M fullShare.right f) : sProp 𝕄) := by
  unfold pt; exact pointsTo_share (PosShare.mem_left_op_right _)

omit [FloatOps F] in
theorem ptE_halves (M : Memref sig .tc .vmem S128x512 .bf16) :
    (iprop(ptE c M fullShare.left ∗ ptE c M fullShare.right) : sProp 𝕄) ⊢ ptE c M fullShare := by
  unfold ptE
  iintro ⟨⟨%f, H⟩, ⟨%g, G⟩⟩
  ihave %e := (show iprop(pt c M fullShare.left f ∗ pt c M fullShare.right g) ⊢ (⌜∀ i ∈ M.view.set ∩ M.view.set, f i = g i ∧ _⌝ : sProp 𝕄) from by unfold pt; exact pointsTo_agree) $$ [H G]
  · isplitl [H] <;> iassumption
  iexists f
  iapply (pt_halves c M f).2
  isplitl [H]; · iexact H
  unfold pt
  iapply (Entails.of_eq (pointsTo_congr (f := g) (g := f) fun i hi => (e i (by rw [Finset.inter_self]; exact hi)).1.symm))
  iexact G

/-- What hop `s` of the gather lands with. -/
theorem pay_xg {s : ℕ} (hs : s < 7) (M : Memref sig .tc .vmem S128x512 .bf16) (hM : M = xgB j c s) {fs : Buf (Elt F) (M.view.loc (c : Thread nD τ))} {fd : Buf (Elt F) (M.view.loc (peer (way j) c : Thread nD τ))}
    (hf : M.view.read (Elt F) fs = X I j (blk (way j) c s)) :
    pt (peer (way j) c) M fullShare (M.view.write (Elt F) fd (M.view.read (Elt F) fs) Finset.univ) ⊢ xferPay I (peer (way j) c) 1 j (hop s) := by
  unfold xferPay ptV; dsimp only
  rw [Nat.mod_eq_of_lt hs, hf]
  have hb : blk (way j) (peer (way j) c) (s + 1) = blk (way j) c s := blk_peer (way j) c ⟨s, by omega⟩
  rw [show xgB j (peer (way j) c) (s + 1) = M by rw [hM]; unfold xgB; rw [hb], hb]
  iintro H
  iexists (M.view.write (Elt F) fd (X I j (blk (way j) c s)) Finset.univ)
  isplitr
  · ipureintro; exact View.read_write_univ _ _
  iexact H

theorem wp_agSendM (Q : PUnit → sProp 𝕄) {s : ℕ} (hs : s < 7) (M : Memref sig .tc .vmem S128x512 .bf16) (ha hb : M.view.WordExact) (hM : M = xgB j c s) (O : CellTallies nD τ sig Unit) (K : P F) :
    iprop(ctx I κ ∗ hB c j s ∗ ptV c (xgB j c s) fullShare (X I j (blk (way j) c s)) ∗ ow c (O + tA c j s))
      ⊢ iprop(((hB' c j s ∗ ptV c (xgB j c s) fullShare.right (X I j (blk (way j) c s)) ∗ ow c O) -∗ wpc c K Q) -∗ wpc c (opSend (pDev (way j) c) M M ha hb (dsem 0 j (hop s)) (dsem 1 j (hop s)) K) Q) := by
  have hk : blk (way j) (peer (way j) c) (s + 1) = blk (way j) c s := blk_peer (way j) c ⟨s, by omega⟩
  unfold hB hB' tick giveA ptE
  rw [show xgB j (peer (way j) c) (s + 1) = xgB j c s by unfold xgB; rw [hk]]
  rw [← hM]
  have hpay := fun fs fd => pay_xg I c j hs _ hM (fs := fs) (fd := fd)
  unfold ptV
  iintro ⟨#Hctx, ⟨⟨Hat, Ht1, Hr1⟩, Ht2, ⟨%fd, Hd⟩, Hr2⟩, ⟨%fs, %hf, Hs⟩, HO⟩ Hk
  ihave Hs2 := (pt_halves c M fs).1 $$ Hs
  icases Hs2 with ⟨Hl, Hr⟩
  iapply (wp_opSend I κ c (peer (way j) c) 0 1 j (hop s) M M ha hb (pDev (way j) c) (pDev_eq _ _) fullShare.left fs fd
    (by unfold xferPay ptE; dsimp only; rw [Nat.mod_eq_of_lt hs, ← hM]; iintro H; iexists fs; iexact H) (hpay fs fd hf) O K Q) $$ [Hl Hd HO Ht1 Hr1 Ht2 Hr2]
  · isplitr; · iexact Hctx
    isplitl [Hl]; · iexact Hl
    isplitl [Hd]; · iexact Hd
    isplitl [HO]; · iexact HO
    isplitl [Ht1 Hr1]; · isplitl [Ht1] <;> iassumption
    isplitl [Ht2] <;> iassumption
  iintro ⟨Hc, HO⟩
  iapply Hk
  isplitl [Hat Hc]; · isplitl [Hat] <;> iassumption
  isplitl [Hr]
  · iexists fs; isplitr; · ipureintro; exact hf
    iexact Hr
  iexact HO

theorem wp_agSend (Q : PUnit → sProp 𝕄) {s : ℕ} (hs : s < 7) (O : CellTallies nD τ sig Unit) (K : P F) :
    iprop(ctx I κ ∗ hB c j s ∗ ptV c (xgB j c s) fullShare (X I j (blk (way j) c s)) ∗ ow c (O + tA c j s))
      ⊢ iprop(((hB' c j s ∗ ptV c (xgB j c s) fullShare.right (X I j (blk (way j) c s)) ∗ ow c O) -∗ wpc c K Q) -∗ wpc c (agSend c j (hop s) K) Q) :=
  wp_agSendM I κ c j Q hs _ _ _ (by rw [(oSend c j (hop s)).eq_canon]; unfold xgB; rw [hop_val hs]) O K

theorem pay_rs {s : ℕ} (hs : s < 7) {fs : Buf (Elt F) ((acB j s).view.loc (c : Thread nD τ))} {fd : Buf (Elt F) ((rsB j s).view.loc (peer (way j) c : Thread nD τ))}
    (hf : (acB j s).view.read (Elt F) fs = Pv I j c s) :
    pt (peer (way j) c) (rsB j s) fullShare ((rsB j s).view.write (Elt F) fd ((acB j s).view.read (Elt F) fs) Finset.univ) ⊢ xferPay I (peer (way j) c) 3 j (hop s) := by
  unfold xferPay ptV; dsimp only
  rw [Nat.mod_eq_of_lt hs, hf, peer_peer']
  iintro H
  iexists ((rsB j s).view.write (Elt F) fd (Pv I j c s) Finset.univ)
  isplitr
  · ipureintro; exact View.read_write_univ _ _
  iexact H

theorem wp_rsSend (Q : PUnit → sProp 𝕄) {s : ℕ} (hs : s < 7) (O : CellTallies nD τ sig Unit) (K : P F) :
    iprop(ctx I κ ∗ hC c j s ∗ ptV c (acB j s) fullShare (Pv I j c s) ∗ ow c (O + tR c j s))
      ⊢ iprop(((hC' c j s ∗ ow c O) -∗ wpc c K Q) -∗ wpc c (rsSend c j s K) Q) := by
  unfold hC hC' tick giveR ptE rsSend ptV
  iintro ⟨#Hctx, ⟨⟨Hat, Ht1, Hr1⟩, Ht2, ⟨%fd, Hd⟩, Hr2⟩, ⟨%fs, %hf, Hs⟩, HO⟩ Hk
  iapply (wp_opSend I κ c (peer (way j) c) 2 3 j (hop s) (acB j s) (rsB j s) (acS_exact _ _ _) (rsS_exact _ _ _) (pDev (way j) c) (pDev_eq _ _) fullShare fs fd
    (by unfold xferPay ptE; dsimp only; rw [Nat.mod_eq_of_lt hs]; iintro H; iexists fs; iexact H) (pay_rs I c j hs hf) O K Q) $$ [Hs Hd HO Ht1 Hr1 Ht2 Hr2]
  · isplitr; · iexact Hctx
    isplitl [Hs]; · iexact Hs
    isplitl [Hd]; · iexact Hd
    isplitl [HO]; · iexact HO
    isplitl [Ht1 Hr1]; · isplitl [Ht1] <;> iassumption
    isplitl [Ht2] <;> iassumption
  iintro ⟨Hc, HO⟩
  iapply Hk
  isplitl [Hat Hc]; · isplitl [Hat] <;> iassumption
  iexact HO

/-! ## A step -/

theorem Above.mono {O : CellTallies nD τ sig Unit} {l l' : ℕ} (h : Above O l) (hl : l' ≤ l) : Above O l' :=
  fun g u hg => ⟨(h g u hg).1, lt_of_le_of_lt hl (h g u hg).2⟩

/-- The end of a step. -/
theorem wp_turn (Q : PUnit → sProp 𝕄) {s : ℕ} (hs : s < 7) {O : CellTallies nD τ sig Unit} (hO : Above (O + tR c j s) (2 + 4 * s + j.val))
    {p : FVec F S128x512 .f32} (hp : p = sh I j c (blk (way j) c (s + 1))) (K : P F) :
    iprop(ctx I κ ∗ stT c j s ∗ ow c (O + tR c j s)) ⊢ iprop(((stT c j (s + 1) ∗ ow c O) -∗ wpc c K Q) -∗ wpc c (turn c j s p K) Q) := by
  subst hp
  match s with
  | 0 =>
    rw [show (stT c j 0 : sProp 𝕄) = iprop((hC c j 0 ∗ bigSep (Finset.Ico 1 7) (hC c j)) ∗ bigSep (Finset.Ico 0 0) (hC' c j) ∗ bigSep (Finset.Ico 0 0) (hC'' c j)
        ∗ bigSep (Finset.Ico 0 7) (hD c j) ∗ bigSep (Finset.Ico 0 0) (hD' c j) ∗ (hG c j 0 ∗ bigSep (Finset.Ico 1 2) (hG c j))) by
        rw [← ico_cons (by decide : 0 < 7), ← ico_cons (by decide : 0 < 2)]; rfl,
      show (stT c j 1 : sProp 𝕄) = iprop(bigSep (Finset.Ico 1 7) (hC c j) ∗ (hC' c j 0 ∗ bigSep (Finset.Ico 0 0) (hC' c j)) ∗ bigSep (Finset.Ico 0 0) (hC'' c j)
        ∗ bigSep (Finset.Ico 0 7) (hD c j) ∗ bigSep (Finset.Ico 0 0) (hD' c j) ∗ bigSep (Finset.Ico 1 2) (hG c j)) by
        rw [← ico_snoc le_rfl]; rfl]
    unfold turn
    iintro ⟨#Hctx, ⟨⟨HC, HCs⟩, HC's, HC''s, HDs, HD's, HG, HGs⟩, HO⟩ Hk
    unfold hG
    iapply (wp_storeAc c (way j) (par 0) (sub j) Q (first (sh I j c (blk (way j) c (0 + 1)))) _) $$ HG
    iintro HG
    iapply (wp_rsSend I κ c j Q (by decide : 0 < 7) O K) $$ [HC HG HO]
    · isplitr; · iexact Hctx
      isplitl [HC]; · iexact HC
      isplitl [HG]; · iexact HG
      iexact HO
    iintro ⟨HC', HO⟩
    iapply Hk
    iframe
  | 1 =>
    rw [show (stT c j 1 : sProp 𝕄) = iprop((hC c j 1 ∗ bigSep (Finset.Ico 2 7) (hC c j)) ∗ bigSep (Finset.Ico 0 1) (hC' c j) ∗ bigSep (Finset.Ico 0 0) (hC'' c j)
        ∗ (hD c j 0 ∗ bigSep (Finset.Ico 1 7) (hD c j)) ∗ bigSep (Finset.Ico 0 0) (hD' c j) ∗ (hG c j 1 ∗ bigSep (Finset.Ico 2 2) (hG c j))) by
        rw [← ico_cons (by decide : 1 < 7), ← ico_cons (by decide : 1 < 2), ← ico_cons (by decide : 0 < 7)]; rfl,
      show (stT c j (1 + 1) : sProp 𝕄) = iprop(bigSep (Finset.Ico 2 7) (hC c j) ∗ (hC' c j 1 ∗ bigSep (Finset.Ico 0 1) (hC' c j)) ∗ bigSep (Finset.Ico 0 0) (hC'' c j)
        ∗ bigSep (Finset.Ico 1 7) (hD c j) ∗ (hD' c j 0 ∗ bigSep (Finset.Ico 0 0) (hD' c j)) ∗ bigSep (Finset.Ico 2 2) (hG c j)) by
        rw [← ico_snoc le_rfl, ← ico_snoc (by decide : 0 ≤ 1)]; rfl]
    unfold turn
    iintro ⟨#Hctx, ⟨⟨HC, HCs⟩, HC's, HC''s, ⟨HD, HDs⟩, HD's, HG, HGs⟩, HO⟩ Hk
    iapply (wp_rsWaitRecv I κ c j Q (by decide : 0 < 7) hO _) $$ [HD HO]
    · isplitr; · iexact Hctx
      isplitl [HD] <;> iassumption
    iintro ⟨Hat, HR, HO⟩
    iapply (wp_loadRs c Q (way j) (hop 0) (sub j) _) $$ HR
    iintro %r %hr HR
    unfold hG
    iapply (wp_storeAc c (way j) (par 1) (sub j) Q _ _) $$ HG
    iintro HG
    rw [hr]
    iapply (wp_rsSend I κ c j Q (by decide : 1 < 7) O K) $$ [HC HG HO]
    · isplitr; · iexact Hctx
      isplitl [HC]; · iexact HC
      isplitl [HG]; · iexact HG
      iexact HO
    iintro ⟨HC', HO⟩
    ihave HR := (ptV_E c (rsB j 0) fullShare _) $$ HR
    iapply Hk
    unfold hD'
    iframe
  | s + 2 =>
    rw [show (stT c j (s + 2) : sProp 𝕄) = iprop((hC c j (s + 2) ∗ bigSep (Finset.Ico (s + 3) 7) (hC c j)) ∗ (hC' c j s ∗ bigSep (Finset.Ico (s + 1) (s + 2)) (hC' c j)) ∗ bigSep (Finset.Ico 0 s) (hC'' c j)
        ∗ (hD c j (s + 1) ∗ bigSep (Finset.Ico (s + 2) 7) (hD c j)) ∗ bigSep (Finset.Ico 0 (s + 1)) (hD' c j) ∗ bigSep (Finset.Ico (s + 3) 2) (hG c j)) by
        rw [← ico_cons hs, ← ico_cons (by omega : s < s + 2), ← ico_cons (by omega : s + 1 < 7), ico_nil (by omega : 2 ≤ s + 3), ← ico_nil (by omega : 2 ≤ s + 2)]; rfl,
      show (stT c j (s + 2 + 1) : sProp 𝕄) = iprop(bigSep (Finset.Ico (s + 3) 7) (hC c j) ∗ (hC' c j (s + 2) ∗ bigSep (Finset.Ico (s + 1) (s + 2)) (hC' c j)) ∗ (hC'' c j s ∗ bigSep (Finset.Ico 0 s) (hC'' c j))
        ∗ bigSep (Finset.Ico (s + 2) 7) (hD c j) ∗ (hD' c j (s + 1) ∗ bigSep (Finset.Ico 0 (s + 1)) (hD' c j)) ∗ bigSep (Finset.Ico (s + 3) 2) (hG c j)) by
        rw [← ico_snoc (by omega : s + 1 ≤ s + 2), ← ico_snoc (by omega : 0 ≤ s), ← ico_snoc (by omega : 0 ≤ s + 1)]; rfl]
    unfold turn
    iintro ⟨#Hctx, ⟨⟨HC, HCs⟩, ⟨HC1, HC's⟩, HC''s, ⟨HD, HDs⟩, HD's, HGs⟩, HO⟩ Hk
    iapply (wp_rsWaitSend I κ c j Q (by omega : s < 7) (hO.mono (Nat.zero_le _)) _) $$ [HC1 HO]
    · isplitr; · iexact Hctx
      isplitl [HC1] <;> iassumption
    iintro ⟨HC2, HG, HO⟩
    iapply (wp_rsWaitRecv I κ c j Q (by omega : s + 1 < 7) (hO.mono (by omega)) _) $$ [HD HO]
    · isplitr; · iexact Hctx
      isplitl [HD] <;> iassumption
    iintro ⟨Hat, HR, HO⟩
    iapply (wp_loadRs c Q (way j) (hop (s + 1)) (sub j) _) $$ HR
    iintro %r %hr HR
    unfold hG
    rw [show acB j s = acB j (s + 2) by unfold acB; rw [show par s = par (s + 2) from Fin.ext (by show s % 2 = (s + 2) % 2; omega)]]
    iapply (wp_storeAc c (way j) (par (s + 2)) (sub j) Q _ _) $$ HG
    iintro HG
    rw [hr]
    iapply (wp_rsSend I κ c j Q hs O K) $$ [HC HG HO]
    · isplitr; · iexact Hctx
      isplitl [HC]; · iexact HC
      isplitl [HG]; · iexact HG
      iexact HO
    iintro ⟨HC', HO⟩
    ihave HR := (ptV_E c (rsB j (s + 1)) fullShare _) $$ HR
    iapply Hk
    unfold hD'
    iframe

theorem agT_eq {s : ℕ} (hs : s < 6) : agT c (4 * s + j.val) = tA c j (s + 1) := by
  have hn : (⟨(4 * s + j.val) % 4, Nat.mod_lt _ (by decide)⟩ : Fin 4) = j := Fin.ext (by show (4 * s + j.val) % 4 = j.val; omega)
  unfold agT; rw [if_pos (by omega), hn, show (4 * s + j.val) / 4 = s by omega]
theorem rsT_eq (s : ℕ) : rsT c (4 * s + j.val) = tR c j s := by
  have hn : (⟨(4 * s + j.val) % 4, Nat.mod_lt _ (by decide)⟩ : Fin 4) = j := Fin.ext (by show (4 * s + j.val) % 4 = j.val; omega)
  unfold rsT; rw [hn, show (4 * s + j.val) / 4 = s by omega]
theorem owed_eq {n : ℕ} (hn : n < 28) : owed c (28 - n) = owed c (27 - n) + rsT c n + agT c n := by
  rw [show 28 - n = (27 - n) + 1 by omega, owed, show 27 - (27 - n) = n by omega]

/-- The block received is passed on, if it is not the last. -/
theorem wp_fwd (Q : PUnit → sProp 𝕄) {s : ℕ} (hs : s < 7) (O : CellTallies nD τ sig Unit) (K : P F) :
    iprop(ctx I κ ∗ bigSep (Finset.Ico (s + 1) 7) (hB c j) ∗ bigSep (Finset.Ico 0 (min (s + 1) 7)) (hB' c j)
        ∗ ptV c (xgB j c (s + 1)) fullShare (X I j (blk (way j) c (s + 1))) ∗ ow c (O + agT c (4 * s + j.val)))
      ⊢ iprop(((bigSep (Finset.Ico (s + 2) 7) (hB c j) ∗ bigSep (Finset.Ico 0 (min (s + 2) 7)) (hB' c j)
        ∗ ptV c (xgB j c (s + 1)) (kept (s + 1)) (X I j (blk (way j) c (s + 1))) ∗ ow c O) -∗ wpc c K Q) -∗ wpc c (fwd c j s K) Q) := by
  unfold fwd
  by_cases h : s < 6
  · rw [if_pos h, agT_eq c j h, ico_cons (by omega : s + 1 < 7), show min (s + 2) 7 = s + 1 + 1 by omega, show min (s + 1) 7 = s + 1 by omega,
      ico_snoc (by omega : 0 ≤ s + 1), show kept (s + 1) = fullShare.right from if_pos (by omega)]
    iintro ⟨#Hctx, ⟨HB, HBs⟩, HB's, HX, HO⟩ Hk
    iapply (wp_agSend I κ c j Q (by omega : s + 1 < 7) O K) $$ [HB HX HO]
    · isplitr; · iexact Hctx
      isplitl [HB]; · iexact HB
      isplitl [HX] <;> iassumption
    iintro ⟨HB', HX, HO⟩
    iapply Hk
    iframe
  · obtain rfl : s = 6 := by omega
    rw [if_neg h, show agT c (4 * 6 + j.val) = 0 from if_neg (by omega), add_zero, ico_nil (by omega : 7 ≤ 6 + 1), ico_nil (by omega : 7 ≤ 6 + 2),
      show min (6 + 2) 7 = min (6 + 1) 7 from rfl, show kept (6 + 1) = fullShare from if_neg (by omega)]
    iintro ⟨-, H1, H2, HX, HO⟩ Hk
    iapply Hk
    iframe

/-- A step of a stream. -/
theorem wp_step (Q : PUnit → sProp 𝕄) {s : ℕ} (hs : s < 7) (K : P F) :
    iprop(ctx I κ ∗ inp I c ∗ stU c j s ∗ stT c j s ∗ ow c (owed c (28 - (4 * s + j.val))))
      ⊢ iprop(((inp I c ∗ stU c j (s + 1) ∗ stT c j (s + 1) ∗ ow c (owed c (27 - (4 * s + j.val)))) -∗ wpc c K Q) -∗ wpc c (step c j s K) Q) := by
  have hO : Above (owed c (28 - (4 * s + j.val))) (2 + 4 * s + j.val) := Above.owed c (by omega) (by omega)
  have hO' : Above (owed c (27 - (4 * s + j.val)) + tR c j s) (2 + 4 * s + j.val) :=
    (Above.owed c (by omega) (by omega)).add (by rw [← rsT_eq]; exact Above.rsT c (by omega) (by omega))
  unfold stU step
  rw [ico_cons hs, ico_snoc (by omega : 0 ≤ s) (hA' c j), ico_snoc (by omega : 0 ≤ s + 1) (hE c j)]
  iintro ⟨#Hctx, Hin, ⟨⟨HA, HAs⟩, HA's, HBs, HB's, HEs⟩, HT, HO⟩ Hk
  iapply (wp_agWaitRecv I κ c j Q hs hO _) $$ [HA HO]
  · isplitr; · iexact Hctx
    isplitl [HA] <;> iassumption
  iintro ⟨HA', HX, HO⟩
  rw [owed_eq c (show 4 * s + j.val < 28 by omega), rsT_eq]
  iapply (wp_fwd I κ c j Q hs _ _) $$ [HBs HB's HX HO]
  · iframe
    iexact Hctx
  iintro ⟨HBs, HB's, HX, HO⟩
  rw [show xgB j c (s + 1) = xgS (way j) (oLoad c j (hop s)) by rw [(oLoad c j (hop s)).eq_canon]; unfold xgB; rw [hop_val hs]]
  iapply (wp_loadXg c (way j) (oLoad c j (hop s)) Q _) $$ HX
  iintro %z %hz HX
  iapply (wp_loadW I c Q _) $$ Hin
  iintro Hin
  iapply (wp_turn I κ c j Q hs hO' (by rw [hz]; rfl) K) $$ [HT HO]
  · iframe
    iexact Hctx
  iintro ⟨HT, HO⟩
  iapply Hk
  rw [← show xgB j c (s + 1) = xgS (way j) (oLoad c j (hop s)) by rw [(oLoad c j (hop s)).eq_canon]; unfold xgB; rw [hop_val hs]]
  ihave HX := (ptV_E c _ _ _) $$ HX
  unfold hE
  iframe

end Cert.KernelRun

end
-- ==== Proof.Body.lean ====
/-
# The body

From its tickets, its slots and its inputs a device runs the body to the end and holds the slots again and its result.
-/
module

public import proofs.«01_k».proof.Proof.Step

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Inp F) (κ : GSem nD τ sig → ℕ)

/-! ## What a stream starts and ends with -/

/-- One of each stream. -/
def four (Φ : Fin 4 → sProp 𝕄) : sProp 𝕄 := iprop(Φ 0 ∗ Φ 1 ∗ Φ 2 ∗ Φ 3)
omit [FloatOps F] in
theorem four_eq (Φ : Fin 4 → sProp 𝕄) : four Φ = bigSep Finset.univ Φ := (bigSep_univ_eq_bigSepL [0, 1, 2, 3] (by decide) (by decide) Φ).symm

/-- The slots of a stream. -/
def mem (c : Dev nD) (j : Fin 4) : sProp 𝕄 :=
  iprop(bigSep (Finset.Ico 0 8) (fun h => ptE c (xgB j c h) fullShare) ∗ bigSep (Finset.Ico 0 7) (fun h => ptE c (rsB j h) fullShare) ∗ bigSep (Finset.Ico 0 2) (hG c j))
/-- Its tickets. -/
def tickets (c : Dev nD) (j : Fin 4) : sProp 𝕄 :=
  iprop(bigSep (Finset.Ico 0 7) (hA c j)
    ∗ (bigSep (Finset.Ico 0 7) (tick 0 c j) ∗ bigSep (Finset.Ico 0 7) (fun h => dutyTok ER (cell 1 j (hop h) (peer (way j) c)) 0 false))
    ∗ (bigSep (Finset.Ico 0 7) (tick 2 c j) ∗ bigSep (Finset.Ico 0 7) (fun h => dutyTok ER (cell 3 j (hop h) (peer (way j) c)) 0 false))
    ∗ bigSep (Finset.Ico 0 7) (hD c j))
/-- That its receiving cells are ready. -/
def marks (c : Dev nD) (j : Fin 4) : sProp 𝕄 :=
  iprop(bigSep (Finset.Ico 0 7) (fun h => reached ER (cell 1 j (hop h) c) 0) ∗ bigSep (Finset.Ico 0 7) (fun h => reached ER (cell 3 j (hop h) c) 0))
/-- Its cells after their round. -/
def done (c : Dev nD) (j : Fin 4) : sProp 𝕄 := four fun k => bigSep (Finset.Ico 0 7) fun h => atPos ER (cell k j (hop h) c) 1 ∅ 0

omit [FloatOps F] in
theorem ico_shift (a b : ℕ) (Φ : ℕ → sProp 𝕄) : bigSep (Finset.Ico (a + 1) (b + 1)) Φ = bigSep (Finset.Ico a b) fun h => Φ (h + 1) := by
  rw [show Finset.Ico (a + 1) (b + 1) = (Finset.Ico a b).map ⟨fun x => x + 1, fun _ _ e => Nat.succ_inj.mp e⟩ by
    ext x; simp only [Finset.mem_map, Finset.mem_Ico, Function.Embedding.coeFn_mk]
    exact ⟨fun h => ⟨x - 1, by omega, Nat.sub_add_cancel (by omega)⟩, fun ⟨y, h, e⟩ => by change y + 1 = x at e; omega⟩, bigSep_map]; rfl

theorem give_intro (c : Dev nD) (j : Fin 4) :
    (iprop(marks c j ∗ mem c j) : sProp 𝕄) ⊢ iprop(give c j ∗ ptE c (xgB j c 0) fullShare ∗ bigSep (Finset.Ico 0 2) (hG c j)) := by
  unfold marks mem give giveA giveR
  rw [ico_cons (by decide : 0 < 8), ico_shift 0 7, Finset.range_eq_Ico, bigSep_sep', bigSep_sep']
  iintro ⟨⟨H1, H2⟩, ⟨H3, H4⟩, H5, H6⟩
  iframe

theorem start (c : Dev nD) (j : Fin 4) :
    (iprop(tickets c j ∗ give (peer (way j) c) j ∗ bigSep (Finset.Ico 0 2) (hG c j)) : sProp 𝕄)
      ⊢ iprop(bigSep (Finset.Ico 0 7) (hA c j) ∗ bigSep (Finset.Ico 0 7) (hB c j) ∗ stT c j 0) := by
  unfold tickets give stT hB hC
  rw [Finset.range_eq_Ico, bigSep_sep', bigSep_sep', bigSep_sep', bigSep_sep', ico_nil (by decide : 0 ≤ 0 - 2), ico_nil (by decide : 0 - 2 ≤ 0), ico_nil (by decide : 0 - 1 ≤ 0)]
  iintro ⟨⟨H1, ⟨H2, H3⟩, ⟨H4, H5⟩, H6⟩, ⟨H7, H8⟩, H9⟩
  iframe

/-- A sent block's half back. -/
def hB'' (c : Dev nD) (j : Fin 4) (h : ℕ) : sProp 𝕄 := iprop(atPos ER (cell 0 j (hop h) c) 1 ∅ 0 ∗ ptE c (xgB j c h) fullShare.left)

/-- A stream at its end. -/
def fin (c : Dev nD) (j : Fin 4) : sProp 𝕄 :=
  iprop(bigSep (Finset.Ico 0 7) (hA' c j) ∗ bigSep (Finset.Ico 0 7) (hB'' c j) ∗ bigSep (Finset.Ico 0 8) (hE c j)
    ∗ bigSep (Finset.Ico 0 7) (hC'' c j) ∗ bigSep (Finset.Ico 5 7) (hG c j) ∗ bigSep (Finset.Ico 0 7) (hD' c j))

omit [FloatOps F] in
theorem fin_done (c : Dev nD) (j : Fin 4) : (fin c j : sProp 𝕄) ⊢ iprop(done c j ∗ mem c j) := by
  unfold fin done mem hB'' hD' four hA' hC''
  rw [ico_snoc (by decide : 0 ≤ 7) (hE c j), ico_snoc (by decide : 0 ≤ 7) (fun h => ptE c (xgB j c h) fullShare), bigSep_sep', bigSep_sep',
    ico_cons (by decide : 5 < 7), ico_cons (by decide : 6 < 7), ico_nil (by decide : 7 ≤ 7), ico_cons (by decide : 0 < 2), ico_cons (by decide : 1 < 2), ico_nil (by decide : 2 ≤ 2)]
  iintro ⟨H1, ⟨H2, HL⟩, ⟨H3, HR⟩, H4, ⟨G5, G6, -⟩, H5, H6⟩
  ihave HX := (show (iprop(bigSep (Finset.Ico 0 7) (fun h => ptE c (xgB j c h) fullShare.left) ∗ bigSep (Finset.Ico 0 7) (hE c j)) : sProp 𝕄)
      ⊢ bigSep (Finset.Ico 0 7) (fun h => ptE c (xgB j c h) fullShare) from by
    rw [← bigSep_sep']
    refine bigSep_mono fun h hh => ?_
    unfold hE
    rw [show kept h = fullShare.right from if_pos (Finset.mem_Ico.mp hh).2]
    exact ptE_halves c _) $$ [HL HR]
  · isplitl [HL] <;> iassumption
  unfold hE hG
  rw [show kept 7 = fullShare from rfl]
  isplitl [H1 H2 H4 H5]
  · iframe
  isplitl [H3 HX]; · iframe
  isplitl [H6]; · iexact H6
  isplitl [G6]; · iexact G6
  isplitl [G5]; · iexact G5
  iempintro

/-! ## The handshake -/

variable (c : Dev nD)

/-- A device's barrier tickets: its own place, and the duties it has at its neighbours' cells. -/
def barIn (c : Dev nD) : sProp 𝕄 :=
  iprop((atPos ER (barCell c) 0 ∅ 0 ∗ cred (tallyAt (barCell c) () 2)) ∗ (dutyTok ER (barCell (peer true c)) 0 false ∗ reached ER (barCell (peer true c)) 0)
    ∗ (dutyTok ER (barCell (peer false c)) 0 true ∗ reached ER (barCell (peer false c)) 0))

theorem wp_shake (Q : PUnit → sProp 𝕄) (K : P F) :
    iprop(ctx I κ ∗ barIn c ∗ (four fun j => give c j) ∗ ow c (O₀ c))
      ⊢ iprop(((atPos ER (barCell c) 1 ∅ 0 ∗ (four fun j => give (peer (way j) c) j) ∗ ow c (owedS c)) -∗ wpc c K Q) -∗ wpc c (shake c K) Q) := by
  unfold ow shake wpc barIn four O₀
  simp only [dev1_eq c, dev2_eq c]
  iintro ⟨#Hctx, ⟨⟨Hat, Hc⟩, ⟨Ht1, Hr1⟩, Ht2, Hr2⟩, ⟨G0, G1, G2, G3⟩, ⟨%W, HO⟩⟩ Hk
  iapply (Rounds.wp_signal 𝒱₀ ER (Rd I) (c : Thread nD τ) none (dst := (peer true c : Thread nD τ)) (κ := κ (barCell (peer true c)))
      (d := false) (by rw [duties_bar]; exact Finset.mem_univ _) ((amount_bar I (peer true c) false).trans (by decide)) ()
      (owedS c + tallyAt (barCell (peer false c)) () 1) rfl) $$ [HO Ht1 Hr1 G0 G2]
  · isplitr; · iapply (inv_at I κ (mem_bar (peer true c))); iexact Hctx
    isplitl [HO]; · iexact HO
    isplitl [Ht1]; · iexact Ht1
    isplitl [G0 G2]
    · rw [payload_bar]; unfold barPay; rw [show peer false (peer true c) = c from peer_peer false c]
      isplitl [G0] <;> iassumption
    iexact Hr1
  iintro HO
  iapply (Rounds.wp_signal 𝒱₀ ER (Rd I) (c : Thread nD τ) none (dst := (peer false c : Thread nD τ)) (κ := κ (barCell (peer false c)))
      (d := true) (by rw [duties_bar]; exact Finset.mem_univ _) ((amount_bar I (peer false c) true).trans (by decide)) ()
      (owedS c) rfl) $$ [HO Ht2 Hr2 G1 G3]
  · isplitr; · iapply (inv_at I κ (mem_bar (peer false c))); iexact Hctx
    isplitl [HO]; · iexact HO
    isplitl [Ht2]; · iexact Ht2
    isplitl [G1 G3]
    · rw [payload_bar]; unfold barPay; rw [show peer true (peer false c) = c from peer_peer true c]
      isplitl [G1] <;> iassumption
    iexact Hr2
  iintro HO
  iapply (Rounds.wp_wait_rest_token 𝒱₀ ER (Rd I) (c : Thread nD τ) none (κ := κ (barCell c))
      (wpE_semWait_eq 𝒱₀ (c : Thread nD τ) none Set.univ) (Set.mem_univ _) () (O := owedS c) (W := W) (R := 0) (m := 0) (T := ∅)
      (by rw [expect_bar]; decide)) $$ [Hc HO Hat]
  · isplitr; · iapply (inv_at I κ (mem_bar c)); iexact Hctx
    isplitl [Hc]; · iexact Hc
    isplitl [HO]; · iexact HO
    isplitr
    · iapply (mayWait (F := F) c _ (Above.owedS c (by rw [lv_bar]; decide)))
      unfold ctx; icases Hctx with ⟨-, #Hl⟩; iexact Hl
    iexact Hat
  iintro ⟨HO, Hat, -, Hpay⟩
  ihave Hp := (Entails.of_eq (rest_bar I c)) $$ Hpay
  unfold barPay
  icases Hp with ⟨⟨P0, P2⟩, P1, P3⟩
  iapply Hk
  isplitl [Hat]; · iexact Hat
  isplitr [HO]
  · iframe
  iexists _; iexact HO

/-! ## The device's own rows -/

theorem wp_put (j : Fin 4) (Q : PUnit → sProp 𝕄) (K : P F) :
    iprop(inp I c ∗ ptE c (xgB j c 0) fullShare) ⊢ iprop(((inp I c ∗ ptV c (xgB j c 0) fullShare (X I j (blk (way j) c 0))) -∗ wpc c K Q) -∗ wpc c (put c j K) Q) := by
  unfold put
  have e : xgS (way j) (oOwn c j) = xgB j c 0 := by rw [(oOwn c j).eq_canon]
  rw [← e, show X I j (blk (way j) c 0) = X I j c by rw [blk_zero]]
  iintro ⟨Hin, H⟩ Hk
  iapply (wp_loadX I c Q _ _ _) $$ Hin
  iintro Hin
  iapply (wp_storeXg c (way j) (oOwn c j) Q _ _) $$ H
  iintro H
  iapply Hk
  isplitl [Hin]; · iexact Hin
  iexact H

/-- The result's buffer. -/
def outp (c : Dev nD) (f : Buf (Elt F) ((c : Thread nD τ).loc cc0_stg3_0)) : sProp 𝕄 := ((c : Thread nD τ).loc cc0_stg3_0 ↦{fullShare} f)

/-- The result's contents with a half of the device's own rows in place, -/
def own1 (a : ℕ) (inb : ∀ i, (![a, 0] : Fin 2 → ℕ) i + S256x512.size i ≤ S512x512.size i) (f : Vec F S512x512 .f32) : Vec F S512x512 .f32 :=
  ((oM : Memref sig .tc .vmem S512x512 .f32).access (Rect.unit (s := S512x512) ![a, 0] S256x512.size inb)).write (Elt F) f
    (con2 ((xM : Memref sig .tc .vmem S512x512 .bf16).view.readAt (Elt F) (Rect.unit (s := S512x512) ![a, 0] S256x512.size inb).toLoadRect (I.x c)) (I.w1 c) (I.w2 c)) Finset.univ
/-- and with a stream's last sum added. -/
def add1 (j : Fin 4) (f : Vec F S512x512 .f32) : Vec F S512x512 .f32 :=
  ((oM : Memref sig .tc .vmem S512x512 .f32).access (rowR j)).write (Elt F) f
    (addf (shapeCast S128x512 ((oM : Memref sig .tc .vmem S512x512 .f32).view.readAt (Elt F) (rowR j).toLoadRect f : Vec F S128x512 .f32) shapeCasts_S128x512_S128x512 : FVec F S128x512 .f32)
      (extf .f32 (Pv I j (peer (!way j) c) 6) bitsLt_bf16_f32)) Finset.univ

theorem wp_loadO (r : Rect S512x512) (hl : (oM : Memref sig .tc .vmem S512x512 .f32).view.LoadsAt r.toLoadRect) (f) (Q : PUnit → sProp 𝕄) (K : (r.toLoadRect.shape.Idx → Elt F .f32) → P F) :
    outp c f ⊢ iprop((outp c f -∗ wpc c (K ((oM : Memref sig .tc .vmem S512x512 .f32).view.readAt (Elt F) r.toLoadRect f)) Q) -∗ wpc c (.op (.load oM r.toLoadRect hl) K) Q) := by
  unfold outp wpc
  exact wp_load 𝒱₀ (c : Thread nD τ) none Set.univ (m := oM) (Finset.subset_univ _)

theorem wp_storeO (r : Rect S512x512) (v : r.shape.Idx → Elt F .f32) (hs : ((oM : Memref sig .tc .vmem S512x512 .f32).access r).Stores Finset.univ) (hw) (f) (Q : PUnit → sProp 𝕄) (K : P F) :
    outp c f ⊢ iprop((outp c (((oM : Memref sig .tc .vmem S512x512 .f32).access r).write (Elt F) f v Finset.univ) -∗ wpc c K Q) -∗ wpc c (.op (.store oM r v Finset.univ hs hw) fun _ => K) Q) := by
  unfold outp wpc
  exact wp_store 𝒱₀ (c : Thread nD τ) none Set.univ (m := oM) (r := r) (w := v) (Mk := Finset.univ) (k := fun _ => K) (S := Finset.univ) (f := f) (hx := hs) (hm := hw) (Finset.subset_univ _)

theorem wp_own (a : ℕ) (inb) (f) (Q : PUnit → sProp 𝕄) (K : P F) :
    iprop(inp I c ∗ outp c f) ⊢ iprop(((inp I c ∗ outp c (own1 I c a inb f)) -∗ wpc c K Q) -∗ wpc c (own a inb K) Q) := by
  unfold own
  iintro ⟨Hin, H⟩ Hk
  iapply (wp_loadX I c Q _ _ _) $$ Hin; iintro Hin
  iapply (wp_loadW I c Q _) $$ Hin; iintro Hin
  iapply (wp_loadO c (Rect.unit (s := S512x512) ![a, 0] S256x512.size inb) _ f Q _) $$ H; iintro H
  iapply (wp_storeO c (Rect.unit (s := S512x512) ![a, 0] S256x512.size inb) (con2 _ (I.w1 c) (I.w2 c)) _ _ f Q _) $$ H; iintro H
  iapply Hk
  isplitl [Hin]; · iexact Hin
  iexact H

theorem wp_addLast (j : Fin 4) (f) (Q : PUnit → sProp 𝕄) (K : P F) :
    iprop(ctx I κ ∗ hD c j 6 ∗ outp c f ∗ ow c 0) ⊢ iprop(((hD' c j 6 ∗ outp c (add1 I c j f) ∗ ow c 0) -∗ wpc c K Q) -∗ wpc c (addLast j K) Q) := by
  unfold addLast
  iintro ⟨#Hctx, HD, H, HO⟩ Hk
  iapply (wp_rsWaitRecv I κ c j Q (by decide : 6 < 7) (Above.zero _) _) $$ [HD HO]
  · iframe; iexact Hctx
  iintro ⟨Hat, HR, HO⟩
  iapply (wp_loadO c _ _ f Q _) $$ H
  iintro H
  iapply (wp_loadRs c Q (way j) (hop 6) (sub j) _) $$ HR
  iintro %r %hr HR
  rw [hr]
  iapply (wp_loadO c (rowR j) _ f Q _) $$ H; iintro H
  iapply (wp_storeO c (rowR j) _ _ _ f Q _) $$ H; iintro H
  ihave HR := (ptV_E c (rsB j 6) fullShare _) $$ HR
  iapply Hk
  unfold hD'
  isplitl [Hat HR]; · iframe
  isplitl [H]; · iexact H
  iexact HO

/-! ## Rounds -/

/-- The streams before round `s`. -/
def all (s : ℕ) : sProp 𝕄 := iprop(inp I c ∗ (stU c 0 s ∗ stT c 0 s) ∗ (stU c 1 s ∗ stT c 1 s) ∗ (stU c 2 s ∗ stT c 2 s) ∗ (stU c 3 s ∗ stT c 3 s))

theorem wp_round (Q : PUnit → sProp 𝕄) {s : ℕ} (hs : s < 7) (K : P F) :
    iprop(ctx I κ ∗ all I c s ∗ ow c (owed c (28 - 4 * s)))
      ⊢ iprop(((all I c (s + 1) ∗ ow c (owed c (28 - 4 * (s + 1)))) -∗ wpc c K Q) -∗ wpc c (round c s K) Q) := by
  unfold all round
  iintro ⟨#Hctx, ⟨Hin, ⟨U0, T0⟩, ⟨U1, T1⟩, ⟨U2, T2⟩, U3, T3⟩, HO⟩ Hk
  iapply (wp_step I κ c 0 Q hs _) $$ [Hin U0 T0 HO]
  · iframe; iexact Hctx
  iintro ⟨Hin, U0, T0, HO⟩
  rw [show 27 - (4 * s + (0 : Fin 4).val) = 28 - (4 * s + (1 : Fin 4).val) by show 27 - (4 * s + 0) = 28 - (4 * s + 1); omega]
  iapply (wp_step I κ c 1 Q hs _) $$ [Hin U1 T1 HO]
  · iframe; iexact Hctx
  iintro ⟨Hin, U1, T1, HO⟩
  rw [show 27 - (4 * s + (1 : Fin 4).val) = 28 - (4 * s + (2 : Fin 4).val) by show 27 - (4 * s + 1) = 28 - (4 * s + 2); omega]
  iapply (wp_step I κ c 2 Q hs _) $$ [Hin U2 T2 HO]
  · iframe; iexact Hctx
  iintro ⟨Hin, U2, T2, HO⟩
  rw [show 27 - (4 * s + (2 : Fin 4).val) = 28 - (4 * s + (3 : Fin 4).val) by show 27 - (4 * s + 2) = 28 - (4 * s + 3); omega]
  iapply (wp_step I κ c 3 Q hs _) $$ [Hin U3 T3 HO]
  · iframe; iexact Hctx
  iintro ⟨Hin, U3, T3, HO⟩
  rw [show 27 - (4 * s + (3 : Fin 4).val) = 28 - 4 * (s + 1) by show 27 - (4 * s + 3) = 28 - 4 * (s + 1); omega]
  iapply Hk
  iframe

/-! ## The end -/

theorem wp_agDrain (j : Fin 4) (Q : PUnit → sProp 𝕄) {s : ℕ} (hs : s < 7) (K : P F) :
    iprop(ctx I κ ∗ (bigSep (Finset.Ico s 7) (hB' c j) ∗ bigSep (Finset.Ico 0 s) (hB'' c j)) ∗ ow c 0)
      ⊢ iprop((((bigSep (Finset.Ico (s + 1) 7) (hB' c j) ∗ bigSep (Finset.Ico 0 (s + 1)) (hB'' c j)) ∗ ow c 0) -∗ wpc c K Q) -∗ wpc c (agWaitSend c j (hop s) K) Q) := by
  rw [ico_cons hs, ico_snoc (by omega : 0 ≤ s)]
  iintro ⟨#Hctx, ⟨⟨H, Hs⟩, Hr⟩, HO⟩ Hk
  iapply (wp_agWaitSend I κ c j Q hs (Above.zero 0) K) $$ [H HO]
  · iframe; iexact Hctx
  iintro ⟨Ha, Hl, HO⟩
  iapply Hk
  unfold hB''
  iframe

theorem wp_rsDrain (j : Fin 4) (Q : PUnit → sProp 𝕄) {s : ℕ} (hs : s < 7) (h5 : 5 ≤ s) (K : P F) :
    iprop(ctx I κ ∗ (bigSep (Finset.Ico s 7) (hC' c j) ∗ bigSep (Finset.Ico 0 s) (hC'' c j) ∗ bigSep (Finset.Ico 5 s) (hG c j)) ∗ ow c 0)
      ⊢ iprop((((bigSep (Finset.Ico (s + 1) 7) (hC' c j) ∗ bigSep (Finset.Ico 0 (s + 1)) (hC'' c j) ∗ bigSep (Finset.Ico 5 (s + 1)) (hG c j)) ∗ ow c 0) -∗ wpc c K Q)
        -∗ wpc c (rsWaitSend j s K) Q) := by
  rw [ico_cons hs, ico_snoc (by omega : 0 ≤ s), ico_snoc h5]
  iintro ⟨#Hctx, ⟨⟨H, Hs⟩, Hr, Hg⟩, HO⟩ Hk
  iapply (wp_rsWaitSend I κ c j Q hs (Above.zero 0) K) $$ [H HO]
  · iframe; iexact Hctx
  iintro ⟨Ha, Hl, HO⟩
  iapply Hk
  iframe

/-- A stream after its last sum is added. -/
def last (c : Dev nD) (j : Fin 4) : sProp 𝕄 :=
  iprop(stU c j 7 ∗ bigSep (Finset.Ico 5 7) (hC' c j) ∗ bigSep (Finset.Ico 0 5) (hC'' c j) ∗ bigSep (Finset.Ico 0 7) (hD' c j))

theorem wp_drain (j : Fin 4) (Q : PUnit → sProp 𝕄) (K : P F) :
    iprop(ctx I κ ∗ last c j ∗ ow c 0) ⊢ iprop(((fin c j ∗ ow c 0) -∗ wpc c K Q) -∗ wpc c (drain c j K) Q) := by
  unfold last drain stU fin
  iintro ⟨#Hctx, ⟨⟨-, HA, -, HB, HE⟩, HC, HC', HD⟩, HO⟩ Hk
  rw [show min (7 + 1) 7 = 7 from rfl]
  ihave HB' := (show (iprop(emp) : sProp 𝕄) ⊢ bigSep (Finset.Ico 0 0) (hB'' c j) from by rw [ico_nil le_rfl]) $$ []
  · iempintro
  ihave HG := (show (iprop(emp) : sProp 𝕄) ⊢ bigSep (Finset.Ico 5 5) (hG c j) from by rw [ico_nil le_rfl]) $$ []
  · iempintro
  iapply (wp_agDrain I κ c j Q (by decide : 0 < 7) _) $$ [HB HB' HO]
  · iframe; iexact Hctx
  iintro ⟨HB, HO⟩
  iapply (wp_agDrain I κ c j Q (by decide : 1 < 7) _) $$ [HB HO]
  · iframe; iexact Hctx
  iintro ⟨HB, HO⟩
  iapply (wp_agDrain I κ c j Q (by decide : 2 < 7) _) $$ [HB HO]
  · iframe; iexact Hctx
  iintro ⟨HB, HO⟩
  iapply (wp_agDrain I κ c j Q (by decide : 3 < 7) _) $$ [HB HO]
  · iframe; iexact Hctx
  iintro ⟨HB, HO⟩
  iapply (wp_agDrain I κ c j Q (by decide : 4 < 7) _) $$ [HB HO]
  · iframe; iexact Hctx
  iintro ⟨HB, HO⟩
  iapply (wp_agDrain I κ c j Q (by decide : 5 < 7) _) $$ [HB HO]
  · iframe; iexact Hctx
  iintro ⟨HB, HO⟩
  iapply (wp_agDrain I κ c j Q (by decide : 6 < 7) _) $$ [HB HO]
  · iframe; iexact Hctx
  iintro ⟨⟨-, HB⟩, HO⟩
  iapply (wp_rsDrain I κ c j Q (by decide : 5 < 7) le_rfl _) $$ [HC HC' HG HO]
  · iframe; iexact Hctx
  iintro ⟨HC, HO⟩
  iapply (wp_rsDrain I κ c j Q (by decide : 6 < 7) (by decide) _) $$ [HC HO]
  · iframe; iexact Hctx
  iintro ⟨⟨-, HC', HG⟩, HO⟩
  iapply Hk
  iframe

theorem last_intro (c : Dev nD) (j : Fin 4) :
    (iprop(stU c j 7 ∗ stT c j 7) : sProp 𝕄) ⊢ iprop(hD c j 6 ∗ (hD' c j 6 -∗ last c j)) := by
  unfold last stT
  rw [show (bigSep (Finset.Ico 0 7) (hD' c j) : sProp 𝕄) = iprop(hD' c j 6 ∗ bigSep (Finset.Ico 0 6) (hD' c j)) from ico_snoc (by decide : 0 ≤ 6) _,
    show (bigSep (Finset.Ico (7 - 1) 7) (hD c j) : sProp 𝕄) = iprop(hD c j 6 ∗ bigSep (Finset.Ico 7 7) (hD c j)) from ico_cons (by decide : 6 < 7) _,
    show 7 - 2 = 5 from rfl, show 7 - 1 = 6 from rfl]
  iintro ⟨HU, -, HC, HC', ⟨HD, -⟩, HD', -⟩
  isplitl [HD]; · iexact HD
  iintro H
  iframe

/-! ## The whole body -/

/-- The result's contents at the end, from contents `f`. -/
def outAt (f : Vec F S512x512 .f32) : Vec F S512x512 .f32 :=
  add1 I c 3 (add1 I c 2 (add1 I c 1 (add1 I c 0 (own1 I c 256 inb_S512x512_S256x512_256_0 (own1 I c 0 inb_S512x512_S256x512_0_0 f)))))

/-- What a device starts its body with, -/
def bodyIn (f : Vec F S512x512 .f32) : sProp 𝕄 :=
  iprop(ctx I κ ∗ inp I c ∗ outp c f ∗ barIn c ∗ (four fun j => iprop(tickets c j ∗ marks c j ∗ mem c j)) ∗ ow c (O₀ c))
/-- and ends it with. -/
def bodyOut (f : Vec F S512x512 .f32) : sProp 𝕄 :=
  iprop(inp I c ∗ outp c (outAt I c f) ∗ atPos ER (barCell c) 1 ∅ 0 ∗ (four fun j => iprop(done c j ∗ mem c j)) ∗ ow c 0)

/-- The own block in place and sent. -/
theorem wp_agFirst (j : Fin 4) (Q : PUnit → sProp 𝕄) (O : CellTallies nD τ sig Unit) (K : P F) :
    iprop(ctx I κ ∗ (bigSep (Finset.Ico 0 7) (hA c j) ∗ bigSep (Finset.Ico 0 7) (hB c j) ∗ stT c j 0) ∗ ptV c (xgB j c 0) fullShare (X I j (blk (way j) c 0)) ∗ ow c (O + ag0 c j))
      ⊢ iprop((((stU c j 0 ∗ stT c j 0) ∗ ow c O) -∗ wpc c K Q) -∗ wpc c (agSend c j 0 K) Q) := by
  rw [show (stU c j 0 : sProp 𝕄) = iprop(bigSep (Finset.Ico 0 7) (hA c j) ∗ bigSep (Finset.Ico 0 0) (hA' c j) ∗ bigSep (Finset.Ico 1 7) (hB c j)
      ∗ (hB' c j 0 ∗ bigSep (Finset.Ico 0 0) (hB' c j)) ∗ (hE c j 0 ∗ bigSep (Finset.Ico 0 0) (hE c j))) by
      rw [← ico_snoc le_rfl, ← ico_snoc le_rfl]; rfl, ico_cons (by decide : 0 < 7) (hB c j), ico_nil le_rfl, ico_nil le_rfl, ico_nil le_rfl]
  iintro ⟨#Hctx, ⟨HA, ⟨HB, HBs⟩, HT⟩, HX, HO⟩ Hk
  iapply (wp_agSend I κ c j Q (by decide : 0 < 7) O K) $$ [HB HX HO]
  · isplitr; · iexact Hctx
    isplitl [HB]; · iexact HB
    isplitl [HX]; · iexact HX
    iexact HO
  iintro ⟨HB, HX, HO⟩
  ihave HX := (ptV_E c _ _ _) $$ HX
  iapply Hk
  unfold hE
  rw [show kept 0 = fullShare.right from rfl]
  iframe

theorem wp_rest (f : Vec F S512x512 .f32) (Q : PUnit → sProp 𝕄) :
    iprop(ctx I κ ∗ all I c 0 ∗ outp c f ∗ ow c (owed c 28))
      ⊢ iprop(((inp I c ∗ outp c (outAt I c f) ∗ (four fun j => fin c j) ∗ ow c 0) -∗ Q ⟨⟩)
        -∗ wpc c (round c 0 (own 0 inb_S512x512_S256x512_0_0 (own 256 inb_S512x512_S256x512_256_0
    (round c 1 (round c 2 (round c 3 (round c 4 (round c 5 (round c 6
    (addLast 0 (addLast 1 (addLast 2 (addLast 3
    (drain c 0 (drain c 1 (drain c 2 (drain c 3 (.ret ⟨⟩)))))))))))))))))) Q) := by
  iintro ⟨#Hctx, HA, Hf, HO⟩ Hk
  iapply (wp_round I κ c Q (by decide : 0 < 7) _) $$ [HA HO]
  · iframe; iexact Hctx
  iintro ⟨HA, HO⟩
  unfold all
  icases HA with ⟨Hin, HA⟩
  iapply (wp_own I c 0 _ f Q _) $$ [Hin Hf]
  · iframe
  iintro ⟨Hin, Hf⟩
  iapply (wp_own I c 256 _ _ Q _) $$ [Hin Hf]
  · iframe
  iintro ⟨Hin, Hf⟩
  iapply (show _ ⊢ _ from wp_round I κ c Q (by decide : 1 < 7) _) $$ [Hin HA HO]
  · unfold all; iframe; iexact Hctx
  iintro ⟨HA, HO⟩
  iapply (wp_round I κ c Q (by decide : 2 < 7) _) $$ [HA HO]
  · iframe; iexact Hctx
  iintro ⟨HA, HO⟩
  iapply (wp_round I κ c Q (by decide : 3 < 7) _) $$ [HA HO]
  · iframe; iexact Hctx
  iintro ⟨HA, HO⟩
  iapply (wp_round I κ c Q (by decide : 4 < 7) _) $$ [HA HO]
  · iframe; iexact Hctx
  iintro ⟨HA, HO⟩
  iapply (wp_round I κ c Q (by decide : 5 < 7) _) $$ [HA HO]
  · iframe; iexact Hctx
  iintro ⟨HA, HO⟩
  iapply (wp_round I κ c Q (by decide : 6 < 7) _) $$ [HA HO]
  · iframe; iexact Hctx
  iintro ⟨HA, HO⟩
  unfold all
  rw [show owed c (28 - 4 * (6 + 1)) = 0 from rfl]
  icases HA with ⟨Hin, S0, S1, S2, S3⟩
  ihave S0 := (last_intro c 0) $$ S0
  icases S0 with ⟨D0, S0⟩
  iapply (wp_addLast I κ c 0 _ Q _) $$ [D0 Hf HO]
  · iframe; iexact Hctx
  iintro ⟨D0, Hf, HO⟩
  ihave S1 := (last_intro c 1) $$ S1
  icases S1 with ⟨D1, S1⟩
  iapply (wp_addLast I κ c 1 _ Q _) $$ [D1 Hf HO]
  · iframe; iexact Hctx
  iintro ⟨D1, Hf, HO⟩
  ihave S2 := (last_intro c 2) $$ S2
  icases S2 with ⟨D2, S2⟩
  iapply (wp_addLast I κ c 2 _ Q _) $$ [D2 Hf HO]
  · iframe; iexact Hctx
  iintro ⟨D2, Hf, HO⟩
  ihave S3 := (last_intro c 3) $$ S3
  icases S3 with ⟨D3, S3⟩
  iapply (wp_addLast I κ c 3 _ Q _) $$ [D3 Hf HO]
  · iframe; iexact Hctx
  iintro ⟨D3, Hf, HO⟩
  ihave S0 := S0 $$ D0
  ihave S1 := S1 $$ D1
  ihave S2 := S2 $$ D2
  ihave S3 := S3 $$ D3
  iapply (wp_drain I κ c 0 Q _) $$ [S0 HO]
  · iframe; iexact Hctx
  iintro ⟨S0, HO⟩
  iapply (wp_drain I κ c 1 Q _) $$ [S1 HO]
  · iframe; iexact Hctx
  iintro ⟨S1, HO⟩
  iapply (wp_drain I κ c 2 Q _) $$ [S2 HO]
  · iframe; iexact Hctx
  iintro ⟨S2, HO⟩
  iapply (wp_drain I κ c 3 Q _) $$ [S3 HO]
  · iframe; iexact Hctx
  iintro ⟨S3, HO⟩
  unfold wpc
  rw [wp_ret]
  imodintro
  iapply Hk
  unfold outAt four
  iframe

theorem wp_body (f : Vec F S512x512 .f32) (Q : PUnit → sProp 𝕄) :
    iprop(bodyIn I κ c f ∗ (bodyOut I c f -∗ Q ⟨⟩)) ⊢ wpc c body Q := by
  unfold body bodyIn four
  iintro ⟨⟨#Hctx, Hin, Hf, Hb, ⟨⟨T0, M0⟩, ⟨T1, M1⟩, ⟨T2, M2⟩, T3, M3⟩, HO⟩, Hk⟩
  unfold wpc
  rw [wp_deviceId]
  ihave M0 := (give_intro c 0) $$ M0
  ihave M1 := (give_intro c 1) $$ M1
  ihave M2 := (give_intro c 2) $$ M2
  ihave M3 := (give_intro c 3) $$ M3
  icases M0 with ⟨G0, X0, A0⟩
  icases M1 with ⟨G1, X1, A1⟩
  icases M2 with ⟨G2, X2, A2⟩
  icases M3 with ⟨G3, X3, A3⟩
  iapply (show _ ⊢ iprop(_ -∗ wp frame (wpE (defs₀ (F := F)) 𝒱₀ (c : Thread nD τ) none) Set.univ (shake c _) Q) from wp_shake I κ c Q _) $$ [Hb G0 G1 G2 G3 HO]
  · unfold four; iframe; iexact Hctx
  iintro ⟨Hat, HG, HO⟩
  unfold four
  icases HG with ⟨G0, G1, G2, G3⟩
  ihave S0 := (start c 0) $$ [T0 G0 A0]
  · iframe
  ihave S1 := (start c 1) $$ [T1 G1 A1]
  · iframe
  ihave S2 := (start c 2) $$ [T2 G2 A2]
  · iframe
  ihave S3 := (start c 3) $$ [T3 G3 A3]
  · iframe
  iapply (wp_put I c 0 Q _) $$ [Hin X0]
  · iframe
  iintro ⟨Hin, X0⟩
  iapply (wp_put I c 2 Q _) $$ [Hin X2]
  · iframe
  iintro ⟨Hin, X2⟩
  iapply (wp_put I c 1 Q _) $$ [Hin X1]
  · iframe
  iintro ⟨Hin, X1⟩
  iapply (wp_put I c 3 Q _) $$ [Hin X3]
  · iframe
  iintro ⟨Hin, X3⟩
  unfold owedS
  iapply (wp_agFirst I κ c 0 Q _ _) $$ [S0 X0 HO]
  · iframe; iexact Hctx
  iintro ⟨S0, HO⟩
  iapply (wp_agFirst I κ c 1 Q _ _) $$ [S1 X1 HO]
  · iframe; iexact Hctx
  iintro ⟨S1, HO⟩
  iapply (wp_agFirst I κ c 2 Q _ _) $$ [S2 X2 HO]
  · iframe; iexact Hctx
  iintro ⟨S2, HO⟩
  iapply (wp_agFirst I κ c 3 Q _ _) $$ [S3 X3 HO]
  · iframe; iexact Hctx
  iintro ⟨S3, HO⟩
  iapply (wp_rest I κ c f Q) $$ [Hin S0 S1 S2 S3 Hf HO]
  · unfold all; iframe; iexact Hctx
  iintro ⟨Hin, Hf, HF, HO⟩
  unfold four
  icases HF with ⟨F0, F1, F2, F3⟩
  ihave F0 := (fin_done c 0) $$ F0
  ihave F1 := (fin_done c 1) $$ F1
  ihave F2 := (fin_done c 2) $$ F2
  ihave F3 := (fin_done c 3) $$ F3
  iapply Hk
  unfold bodyOut four
  iframe

end Cert.KernelRun

end
-- ==== Proof.Slots.lean ====
/-
# The scratch buffers as slots

Each scratch buffer, held whole, is its slots, and back; together they are what the four streams hold.
-/
module

public import proofs.«01_k».proof.Proof.Body
public import Idealize.ShloMosaic.Lib.Ring

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer of `n` by two slots -/

/-- A buffer of `n` by two slots. -/
abbrev SN (n : ℕ) : Shape := ⟨4, ![n, 2, 128, 512]⟩

theorem slot_inb (n : ℕ) (b : Fin n) (u : Fin 2) (a : Fin 4) : (![b.val, u.val, 0, 0] : Fin 4 → ℕ) a + S1x1x128x512.size a ≤ (SN n).size a := by
  match a with
  | 0 => exact b.isLt
  | 1 => exact u.isLt
  | 2 => exact le_rfl
  | 3 => exact le_rfl

/-- The place of a slot. -/
abbrev slotR (n : ℕ) (x : Fin n × Fin 2) : Rect (SN n) := Rect.unit (s := SN n) ![x.1.val, x.2.val, 0, 0] S1x1x128x512.size (slot_inb n x.1 x.2)

theorem slot_disj (n : ℕ) (x y : Fin n × Fin 2) (h : x ≠ y) : Disjoint (slotR n x).set (slotR n y).set := by
  rw [Finset.disjoint_left]
  intro i hi hj
  have hi := Rect.mem_set_unit.mp hi
  have hj := Rect.mem_set_unit.mp hj
  have i0 : x.1.val ≤ (i 0).val ∧ (i 0).val < x.1.val + 1 := hi 0
  have i1 : x.2.val ≤ (i 1).val ∧ (i 1).val < x.2.val + 1 := hi 1
  have j0 : y.1.val ≤ (i 0).val ∧ (i 0).val < y.1.val + 1 := hj 0
  have j1 : y.2.val ≤ (i 1).val ∧ (i 1).val < y.2.val + 1 := hj 1
  exact h (Prod.ext (Fin.ext (by omega)) (Fin.ext (by omega)))

theorem slot_cover (n : ℕ) (i : (SN n).Idx) : i ∈ (slotR n (⟨(i 0).val, (i 0).isLt⟩, ⟨(i 1).val, (i 1).isLt⟩)).set := by
  refine Rect.mem_set_unit.mpr fun a => ?_
  match a with
  | 0 => exact ⟨le_rfl, Nat.lt_succ_self _⟩
  | 1 => exact ⟨le_rfl, Nat.lt_succ_self _⟩
  | 2 => exact ⟨Nat.zero_le _, lt_of_lt_of_eq (i 2).isLt (Nat.zero_add _).symm⟩
  | 3 => exact ⟨Nat.zero_le _, lt_of_lt_of_eq (i 3).isLt (Nat.zero_add _).symm⟩

section Buffer
variable {n : ℕ} (M : Memref sig .tc .vmem (SN n) .bf16) (c : Dev nD)

/-- The elements of a slot. -/
def accS (x : Fin n × Fin 2) : Finset (Idx (M.view.loc (c : Thread nD τ))) := (M.access (slotR n x)).set
theorem accS_eq (x : Fin n × Fin 2) : accS M c x = (slotR n x).set.map M.view.emb := View.set_slice _ _

theorem acc_disj (x y : Fin n × Fin 2) (h : x ≠ y) : Disjoint (accS M c x) (accS M c y) := by
  rw [accS_eq, accS_eq]; exact (Finset.disjoint_map _).mpr (slot_disj n x y h)

theorem acc_cover (hM : M.IsWhole) : (Finset.univ : Finset (Fin n × Fin 2)).biUnion (accS M c) = Finset.univ := by
  refine Finset.eq_univ_of_forall fun i => ?_
  have hi : i ∈ M.view.set := by rw [hM.set_eq_univ]; exact Finset.mem_univ (α := M.view.ty.Idx) i
  obtain ⟨k, -, rfl⟩ := Finset.mem_map.mp hi
  exact Finset.mem_biUnion.mpr ⟨_, Finset.mem_univ _, by rw [accS_eq]; exact Finset.mem_map_of_mem _ (slot_cover n k)⟩

/-- A slot held with some contents. -/
def sE (x : Fin n × Fin 2) : sProp 𝕄 := iprop(∃ f : Buf (Elt F) (M.view.loc (c : Thread nD τ)), M.view.loc (c : Thread nD τ) ↦[accS M c x]{fullShare} f)

omit [FloatOps F] in
theorem sE_intro (x : Fin n × Fin 2) (f : Buf (Elt F) (M.view.loc (c : Thread nD τ))) :
    (M.view.loc (c : Thread nD τ) ↦[accS M c x]{fullShare} f : sProp 𝕄) ⊢ sE M c x := by
  unfold sE; iintro H; iexists f; iexact H

omit [FloatOps F] in
theorem whole_slots (hM : M.IsWhole) (f : Buf (Elt F) (M.view.loc (c : Thread nD τ))) :
    (M.view.loc (c : Thread nD τ) ↦{fullShare} f : sProp 𝕄) = bigSep Finset.univ fun x => M.view.loc (c : Thread nD τ) ↦[accS M c x]{fullShare} f :=
  Ring.pointsTo_blocks (accS M c) (acc_disj M c) (acc_cover M c hM) f

omit [FloatOps F] in
theorem buf_split (hM : M.IsWhole) :
    iprop(∃ f : Buf (Elt F) (M.view.loc (c : Thread nD τ)), M.view.loc (c : Thread nD τ) ↦{fullShare} f) ⊢ (bigSep Finset.univ (sE M c) : sProp 𝕄) :=
  exists_elim fun f => (Entails.of_eq (whole_slots M c hM f)).trans
    (bigSep_mono fun x _ => sE_intro M c x f)

theorem buf_join (hM : M.IsWhole) :
    (bigSep Finset.univ (sE M c) : sProp 𝕄) ⊢ iprop(∃ f : Buf (Elt F) (M.view.loc (c : Thread nD τ)), M.view.loc (c : Thread nD τ) ↦{fullShare} f) := by
  unfold sE
  exact Ring.pointsTo_blocks_join_exists (accS M c) (acc_disj M c) (acc_cover M c hM) (fun _ => Classical.arbitrary _)

end Buffer

/-! ## The streams' slots -/

omit [FloatOps F] in
theorem bigSep_ico (n : ℕ) (Φ : ℕ → sProp 𝕄) : bigSep (Finset.Ico 0 n) Φ = bigSep Finset.univ fun i : Fin n => Φ i.val := by
  rw [show Finset.Ico 0 n = Finset.univ.map Fin.valEmbedding by
    ext x; simp only [Finset.mem_map, Finset.mem_Ico, Finset.mem_univ, true_and, Fin.valEmbedding_apply]
    exact ⟨fun h => ⟨⟨x, h.2⟩, rfl⟩, fun ⟨y, e⟩ => e ▸ ⟨Nat.zero_le _, y.isLt⟩⟩, bigSep_map]; rfl

omit [FloatOps F] in
/-- Slots listed by the second place, then the first. -/
theorem two_cols {n : ℕ} (Φ : Fin n × Fin 2 → sProp 𝕄) :
    bigSep Finset.univ Φ = iprop(bigSep Finset.univ (fun b => Φ (b, 0)) ∗ bigSep Finset.univ fun b => Φ (b, 1)) := by
  rw [bigSep_univ_prod, ← bigSep_sep']; exact bigSep_congr fun b _ => Ring.bigSep_fin2 _

theorem blk_inj : ∀ (w : Bool) (c : Dev nD), Function.Injective fun h : Fin 8 => blk w c h.val := by decide +kernel
/-- The blocks by their distance. -/
def blkE (w : Bool) (c : Dev nD) : Fin 8 ≃ Fin 8 := Equiv.ofBijective _ (Finite.injective_iff_bijective.mp (blk_inj w c))

variable (c : Dev nD)

theorem sE_xg (w : Bool) (b : Fin 8) (u : Fin 2) : (sE (F := F) (xgM w) c (b, u) : sProp 𝕄) = ptE c (xgS w (Slot.canon b u)) fullShare := by
  rw [ptE_xgS]; rfl
theorem sE_rs (w : Bool) (b : Fin 7) (u : Fin 2) : (sE (F := F) (rsM w) c (b, u) : sProp 𝕄) = ptE c (rsS w b u) fullShare := by
  rw [ptE_rsS]; rfl
theorem sE_ac (w : Bool) (b : Fin 2) (u : Fin 2) : (sE (F := F) (acM w) c (b, u) : sProp 𝕄) = ptE c (acS w b u) fullShare := by
  rw [ptE_acS]; rfl

theorem xg_col (w : Bool) (u : Fin 2) :
    (bigSep Finset.univ (fun b : Fin 8 => sE (F := F) (xgM w) c (b, u)) : sProp 𝕄) = bigSep (Finset.Ico 0 8) fun h => ptE c (xgS w (Slot.canon (blk w c h) u)) fullShare := by
  rw [bigSep_ico, bigSep_univ_equiv (blkE w c)]
  exact bigSep_congr fun h _ => sE_xg c w _ u
theorem rs_col (w : Bool) (u : Fin 2) :
    (bigSep Finset.univ (fun b : Fin 7 => sE (F := F) (rsM w) c (b, u)) : sProp 𝕄) = bigSep (Finset.Ico 0 7) fun h => ptE c (rsS w (hop h) u) fullShare := by
  rw [bigSep_ico]
  exact bigSep_congr fun h _ => by rw [show hop h.val = h from Fin.ext (Nat.mod_eq_of_lt h.isLt)]; exact sE_rs c w h u
theorem ac_col (w : Bool) (u : Fin 2) :
    (bigSep Finset.univ (fun b : Fin 2 => sE (F := F) (acM w) c (b, u)) : sProp 𝕄) = bigSep (Finset.Ico 0 2) fun h => ptE c (acS w (par h) u) fullShare := by
  rw [bigSep_ico]
  exact bigSep_congr fun h _ => by rw [show par h.val = h from Fin.ext (Nat.mod_eq_of_lt h.isLt)]; exact sE_ac c w h u

/-- A buffer held whole at some contents. -/
def bufE {n : ℕ} (M : Memref sig .tc .vmem (SN n) .bf16) : sProp 𝕄 :=
  iprop(∃ f : Buf (Elt F) (M.view.loc (c : Thread nD τ)), M.view.loc (c : Thread nD τ) ↦{fullShare} f)
/-- The six scratch buffers. -/
def bufs : sProp 𝕄 :=
  iprop(bufE c (xgM false) ∗ bufE c (xgM true) ∗ bufE c (rsM false) ∗ bufE c (rsM true) ∗ bufE c (acM false) ∗ bufE c (acM true))
/-- And as slots, buffer by buffer. -/
def cols : sProp 𝕄 :=
  iprop(bigSep Finset.univ (sE (F := F) (xgM false) c) ∗ bigSep Finset.univ (sE (F := F) (xgM true) c) ∗ bigSep Finset.univ (sE (F := F) (rsM false) c)
    ∗ bigSep Finset.univ (sE (F := F) (rsM true) c) ∗ bigSep Finset.univ (sE (F := F) (acM false) c) ∗ bigSep Finset.univ (sE (F := F) (acM true) c))

theorem bufs_split : (bufs c : sProp 𝕄) ⊢ cols c := by
  unfold bufs cols bufE
  iintro ⟨H1, H2, H3, H4, H5, H6⟩
  isplitl [H1]; · iapply (buf_split _ c (xgM_whole false)); iexact H1
  isplitl [H2]; · iapply (buf_split _ c (xgM_whole true)); iexact H2
  isplitl [H3]; · iapply (buf_split _ c (rsM_whole false)); iexact H3
  isplitl [H4]; · iapply (buf_split _ c (rsM_whole true)); iexact H4
  isplitl [H5]; · iapply (buf_split _ c (acM_whole false)); iexact H5
  iapply (buf_split _ c (acM_whole true)); iexact H6
theorem bufs_join : (cols c : sProp 𝕄) ⊢ bufs c := by
  unfold bufs cols bufE
  iintro ⟨H1, H2, H3, H4, H5, H6⟩
  isplitl [H1]; · iapply (buf_join _ c (xgM_whole false)); iexact H1
  isplitl [H2]; · iapply (buf_join _ c (xgM_whole true)); iexact H2
  isplitl [H3]; · iapply (buf_join _ c (rsM_whole false)); iexact H3
  isplitl [H4]; · iapply (buf_join _ c (rsM_whole true)); iexact H4
  isplitl [H5]; · iapply (buf_join _ c (acM_whole false)); iexact H5
  iapply (buf_join _ c (acM_whole true)); iexact H6

theorem cols_mem : (cols c : sProp 𝕄) ⊢ four (mem c) := by
  unfold cols four mem hG
  rw [two_cols, two_cols, two_cols, two_cols, two_cols, two_cols]
  simp only [xg_col, rs_col, ac_col]
  iintro ⟨⟨A0, A1⟩, ⟨B0, B1⟩, ⟨C0, C1⟩, ⟨D0, D1⟩, ⟨E0, E1⟩, G0, G1⟩
  isplitl [A0 C0 E0]; · iframe
  isplitl [B0 D0 G0]; · iframe
  isplitl [A1 C1 E1] <;> iframe
theorem mem_cols : (four (mem c) : sProp 𝕄) ⊢ cols c := by
  unfold cols four mem hG
  rw [two_cols, two_cols, two_cols, two_cols, two_cols, two_cols]
  simp only [xg_col, rs_col, ac_col]
  iintro ⟨⟨A0, C0, E0⟩, ⟨B0, D0, G0⟩, ⟨A1, C1, E1⟩, B1, D1, G1⟩
  iframe

end Cert.KernelRun

end
-- ==== Proof.Deal.lean ====
/-
# What each device is dealt

The debts of all devices summed at a cell are the credit its owner starts with. The cells of the launch, with their
duties, are shared out: every device gets its own cells and the duties it pays.
-/
module

public import proofs.«01_k».proof.Proof.Slots
@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Debts at a cell -/

theorem tally_at (k j k' j' : Fin 4) (h h' : Fin 7) (c p : Dev nD) :
    (tallyAt (cell k' j' h' p) () N : CellTallies nD τ sig Unit) (cell k j h c) () = if c = p ∧ k = k' ∧ j = j' ∧ h = h' then N else 0 := by
  rw [tallyAt_apply]
  refine if_congr ⟨fun e => ?_, ?_⟩ rfl rfl
  · obtain ⟨e1, e2⟩ := cell_inj e.1
    exact ⟨e2, e1⟩
  · rintro ⟨rfl, rfl, rfl, rfl⟩; exact ⟨rfl, rfl⟩

theorem rsT_at (k j : Fin 4) (h : Fin 7) (c d : Dev nD) {n : ℕ} (hn : n < 28) :
    rsT d n (cell k j h c) () = if c = peer (way j) d ∧ k = 3 ∧ 4 * h.val + j.val = n then N else 0 := by
  unfold rsT
  rw [tally_at]
  refine if_congr ⟨?_, ?_⟩ rfl rfl
  · rintro ⟨rfl, rfl, rfl, rfl⟩
    refine ⟨rfl, rfl, ?_⟩
    rw [hop_val (by omega)]; dsimp only; omega
  · rintro ⟨rfl, rfl, rfl⟩
    have e : (⟨(4 * h.val + j.val) % 4, Nat.mod_lt _ (by decide)⟩ : Fin 4) = j := Fin.ext (by dsimp only; omega)
    rw [e]
    exact ⟨rfl, rfl, rfl, Fin.ext (by rw [hop_val (by omega)]; omega)⟩

theorem agT_at (k j : Fin 4) (h : Fin 7) (c d : Dev nD) {n : ℕ} (hn : n < 28) :
    agT d n (cell k j h c) () = if c = peer (way j) d ∧ k = 1 ∧ 4 * h.val + j.val = n + 4 then N else 0 := by
  unfold agT
  split
  · rw [tally_at]
    refine if_congr ⟨?_, ?_⟩ rfl rfl
    · rintro ⟨rfl, rfl, rfl, rfl⟩
      refine ⟨rfl, rfl, ?_⟩
      rw [hop_val (by omega)]; dsimp only; omega
    · rintro ⟨rfl, rfl, e⟩
      have e1 : (⟨n % 4, Nat.mod_lt _ (by decide)⟩ : Fin 4) = j := Fin.ext (by dsimp only; omega)
      rw [e1]
      exact ⟨rfl, rfl, rfl, Fin.ext (by rw [hop_val (by omega)]; omega)⟩
  · rw [if_neg fun e => by have := e.2.2; omega]; rfl

theorem owed_at (k j : Fin 4) (h : Fin 7) (c d : Dev nD) : ∀ n ≤ 28,
    owed d n (cell k j h c) () = if c = peer (way j) d ∧ (k = 1 ∧ 32 ≤ n + (4 * h.val + j.val) ∨ k = 3 ∧ 28 ≤ n + (4 * h.val + j.val)) then N else 0
  | 0, _ => by rw [if_neg fun e => by rcases e.2 with e | e <;> omega]; rfl
  | n + 1, hn => by
    unfold owed
    rw [Pi.add_apply, Finsupp.add_apply, Pi.add_apply, Finsupp.add_apply, owed_at k j h c d n (by omega), rsT_at k j h c d (by omega), agT_at k j h c d (by omega)]
    by_cases hc : c = peer (way j) d
    · by_cases h1 : k = 1
      · subst h1
        simp only [hc, true_and, show ((1 : Fin 4) = 3) = False from by decide, false_and, or_false, if_false]
        split_ifs <;> omega
      · by_cases h3 : k = 3
        · subst h3
          simp only [hc, true_and, show ((3 : Fin 4) = 1) = False from by decide, false_and, false_or, if_false]
          split_ifs <;> omega
        · simp [h1, h3]
    · simp [hc]

theorem ag0_at (k j j' : Fin 4) (h : Fin 7) (c d : Dev nD) :
    ag0 d j' (cell k j h c) () = if j' = j ∧ c = peer (way j) d ∧ k = 1 ∧ h = 0 then N else 0 := by
  unfold ag0
  rw [tally_at]
  refine if_congr ⟨?_, ?_⟩ rfl rfl
  · rintro ⟨rfl, rfl, rfl, rfl⟩; exact ⟨rfl, rfl, rfl, rfl⟩
  · rintro ⟨rfl, rfl, rfl, rfl⟩; exact ⟨rfl, rfl, rfl, rfl⟩

theorem bar_at (k j : Fin 4) (h : Fin 7) (c d : Dev nD) (n : ℕ) : (tallyAt (barCell d) () n : CellTallies nD τ sig Unit) (cell k j h c) () = 0 := by
  rw [tallyAt_ne_cell (cell_ne_bar k j h c d)]; rfl
theorem at_bar (k j : Fin 4) (h : Fin 7) (c d : Dev nD) (n : ℕ) : (tallyAt (cell k j h c) () n : CellTallies nD τ sig Unit) (barCell d) () = 0 := by
  rw [tallyAt_ne_cell (cell_ne_bar k j h c d).symm]; rfl

/-- What device `d` owes at the start at a transfer cell of `c`: the slot's credit at the receiving cells of its two neighbours. -/
theorem O₀_at (k j : Fin 4) (h : Fin 7) (c d : Dev nD) :
    O₀ d (cell k j h c) () = if c = peer (way j) d ∧ (k = 1 ∨ k = 3) then N else 0 := by
  unfold O₀ owedS
  simp only [Pi.add_apply, Finsupp.add_apply, bar_at, ag0_at, owed_at k j h c d 28 le_rfl, Nat.add_zero]
  by_cases hc : c = peer (way j) d
  · by_cases h3 : k = 3
    · subst h3; simp [hc]
    · by_cases h1 : k = 1
      · subst h1
        have hj := j.isLt
        have hh : (h = 0) ↔ h.val = 0 := ⟨fun e => by rw [e]; rfl, fun e => Fin.ext e⟩
        simp only [hc, true_and, h3, or_false, and_true, if_true, false_and, true_or, Fin.ext_iff, hh,
          show ((3 : Fin 4).val) = 3 from rfl, show ((2 : Fin 4).val) = 2 from rfl, show ((1 : Fin 4).val) = 1 from rfl, show ((0 : Fin 4).val) = 0 from rfl,
          show ((0 : Fin 7).val) = 0 from rfl]
        simp
        split_ifs <;> omega
      · simp [h1, h3]
  · simp [hc]

theorem owed_bar0 (c d : Dev nD) : ∀ n, owed d n (barCell c) () = 0
  | 0 => rfl
  | n + 1 => by
    unfold owed rsT agT
    rw [Pi.add_apply, Finsupp.add_apply, Pi.add_apply, Finsupp.add_apply, owed_bar0 c d n, at_bar]
    split
    · rw [at_bar]
    · rfl

theorem O₀_bar (c d : Dev nD) : O₀ d (barCell c) () = (if d = peer true c then 1 else 0) + (if d = peer false c then 1 else 0) := by
  have e (w : Bool) : (tallyAt (barCell (peer w d)) () 1 : CellTallies nD τ sig Unit) (barCell c) () = if d = peer (!w) c then 1 else 0 := by
    rw [tallyAt_apply]
    refine if_congr ⟨fun e => ?_, ?_⟩ rfl rfl
    · rw [bar_inj e.1, peer_peer' w d]
    · rintro rfl; rw [peer_peer]; exact ⟨rfl, rfl⟩
  unfold O₀ owedS ag0
  simp only [Pi.add_apply, Finsupp.add_apply, at_bar, owed_bar0, e, Nat.add_zero, Nat.zero_add, Bool.not_true, Bool.not_false]

/-! ## Credits -/

abbrev X3 : Type := Fin 4 × Fin 4 × Fin 7
abbrev osem (x : X3) : SemLoc sig := .dma (dsem x.1 x.2.1 x.2.2)
abbrev cx (x : X3) (c : Dev nD) : GSem nD τ sig := cell x.1 x.2.1 x.2.2 c
theorem osem_inj : Function.Injective osem := fun ⟨k, j, h⟩ ⟨k', j', h'⟩ e => by
  obtain ⟨rfl, rfl, rfl⟩ := dsem_inj (SemLoc.dma.inj e); rfl
/-- What a cell's owner waits for from another device. -/
def amt (k : Fin 4) : ℕ := if k = 1 ∨ k = 3 then N else 0

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => O₀_bar c d, Finset.sum_add_distrib,
    Finset.sum_ite_eq' Finset.univ (peer true c) fun _ => 1, Finset.sum_ite_eq' Finset.univ (peer false c) fun _ => 1, if_pos (Finset.mem_univ _), if_pos (Finset.mem_univ _)]

theorem launch_cell (x : X3) (c : Dev nD) :
    tallyOn (cx x c) (launchCredit (Pipeline.owing O₀) 0 (cx x c)) = (tallyAt (cx x c) () (amt x.1) : CellTallies nD τ sig Unit) := by
  unfold tallyAt; refine congrArg _ (Finsupp.ext fun u => ?_); cases u
  have e (d : Dev nD) : O₀ d (cx x c) () = if d = peer (!way x.2.1) c then amt x.1 else 0 := by
    rw [O₀_at]
    by_cases hd : d = peer (!way x.2.1) c
    · subst hd; rw [peer_peer, if_pos rfl]; unfold amt; simp
    · rw [if_neg fun h => hd (by rw [h.1, peer_peer']), if_neg hd]
  rw [Pipeline.launchCredit_owing, Finsupp.single_eq_same, Finset.sum_congr rfl fun d _ => e d,
    Finset.sum_ite_eq' Finset.univ (peer (!way x.2.1) c) fun _ => amt x.1, if_pos (Finset.mem_univ _)]

omit [FloatOps F] in
theorem creds (c : Dev nD) : (Pipeline.launchCred O₀ c : sProp 𝕄)
    ⊢ iprop(cred (tallyAt (barCell c) () 2) ∗ bigSep Finset.univ fun x : X3 => cred (tallyAt (cx x c) () (amt x.1))) := by
  unfold Pipeline.launchCred
  rw [bigSep_univ_at _ (SemLoc.reg barS), launch_bar]
  refine Idealize.SL.BI.Laws.sep_mono_right ?_
  refine (bigSep_subset (t := Finset.univ.map ⟨osem, osem_inj⟩) fun sm h => ?_).trans ?_
  · obtain ⟨x, -, rfl⟩ := Finset.mem_map.mp h
    exact Finset.mem_erase.mpr ⟨fun e => (by cases e), Finset.mem_univ _⟩
  · rw [bigSep_map]
    exact bigSep_mono fun x _ => by rw [← launch_cell x c]; exact BI.Entails.refl _

/-! ## By kind, stream and hop -/

omit [FloatOps F] in
theorem by_kind (Φ : X3 → sProp 𝕄) : bigSep Finset.univ Φ = four fun j => four fun k => bigSep (Finset.Ico 0 7) fun h => Φ (k, j, hop h) := by
  have e : (bigSep Finset.univ fun k => bigSep Finset.univ fun j => bigSep (Finset.Ico 0 7) fun h => Φ (k, j, hop h)) = bigSep Finset.univ Φ := by
    rw [bigSep_univ_prod]
    refine bigSep_congr fun k _ => ?_
    rw [bigSep_univ_prod]
    refine bigSep_congr fun j _ => ?_
    rw [bigSep_ico]
    exact bigSep_congr fun h _ => by rw [show hop h.val = h from Fin.ext (hop_val h.isLt)]
  rw [← e, Idealize.SL.BI.bigSep_univ_comm, four_eq]
  exact bigSep_congr fun j _ => (four_eq _).symm

omit [FloatOps F] in
theorem four_mono {Φ Ψ : Fin 4 → sProp 𝕄} (h : ∀ j, Φ j ⊢ Ψ j) : four Φ ⊢ four Ψ := by
  rw [four_eq, four_eq]; exact bigSep_mono fun j _ => h j
omit [FloatOps F] in
theorem four_sep (Φ Ψ : Fin 4 → sProp 𝕄) : four (fun j => iprop(Φ j ∗ Ψ j)) = iprop(four Φ ∗ four Ψ) := by
  rw [four_eq, four_eq, four_eq, bigSep_sep']

/-! ## Duties carried to their payers -/

/-- The owner of the cell of kind `k` and stream `j` that device `c` pays. -/
def dst : Fin 4 → Fin 4 → Dev nD ≃ Dev nD
  | 1, j => ring (way j)
  | 3, j => ring (way j)
  | _, _ => Equiv.refl _

/-- The duties a device pays at transfer cells. -/
def toks (c : Dev nD) : sProp 𝕄 := bigSep Finset.univ fun x : X3 => dutyTok ER (cx x (dst x.1 x.2.1 c)) 0 false
/-- The duties it pays at barrier cells. -/
def barToks (c : Dev nD) : sProp 𝕄 := iprop(dutyTok ER (barCell (peer true c)) 0 false ∗ dutyTok ER (barCell (peer false c)) 0 true)

/-- Every duty. -/
def toksT : Finset (GSem nD τ sig × ℕ × Bool) := Finset.univ.map ⟨fun x : Dev nD × X3 => (cx x.2 x.1, 0, false), fun ⟨c, k, j, h⟩ ⟨c', k', j', h'⟩ e => by
  obtain ⟨⟨rfl, rfl, rfl⟩, rfl⟩ := cell_inj (congrArg (·.1) e); rfl⟩
def toksB : Finset (GSem nD τ sig × ℕ × Bool) := Finset.univ.map ⟨fun x : Dev nD × Bool => (barCell x.1, 0, x.2), fun ⟨c, b⟩ ⟨c', b'⟩ e => by
  obtain rfl := bar_inj (congrArg (·.1) e); obtain rfl := congrArg (·.2.2) e; rfl⟩

theorem toks_disj : Disjoint toksB toksT := Finset.disjoint_left.mpr fun x h h' => by
  obtain ⟨⟨c, b⟩, -, rfl⟩ := Finset.mem_map.mp h
  obtain ⟨⟨d, x⟩, -, e⟩ := Finset.mem_map.mp h'
  exact cell_ne_bar _ _ _ _ _ (congrArg (·.1) e)
theorem cells_disj : Disjoint barCells xferCells := Finset.disjoint_left.mpr fun x h h' => by
  obtain ⟨c, -, rfl⟩ := Finset.mem_map.mp h
  obtain ⟨x, -, e⟩ := Finset.mem_map.mp h'
  exact cell_ne_bar _ _ _ _ _ e

omit [FloatOps F] in
theorem toks_around : (bigSep (toksB ∪ toksT) (fun x => dutyTok ER x.1 x.2.1 x.2.2) : sProp 𝕄)
    ⊢ bigSep Finset.univ fun c => iprop(barToks c ∗ toks c) := by
  rw [bigSep_union toks_disj, bigSep_sep']
  unfold toksB toksT toks barToks
  rw [bigSep_map, bigSep_map, bigSep_sep']
  refine Entails.of_eq (congrArg₂ (fun P Q : sProp 𝕄 => iprop(P ∗ Q)) ?_ ?_)
  · rw [bigSep_univ_prod, Idealize.SL.BI.bigSep_univ_comm, bigSep_univ_eq_bigSepL [false, true] (by decide) (by decide), bigSepL_cons_cons, bigSepL_singleton]
    exact congrArg₂ (fun P Q : sProp 𝕄 => iprop(P ∗ Q)) (bigSep_univ_equiv (ring true) _) (bigSep_univ_equiv (ring false) _)
  · rw [bigSep_univ_prod, Idealize.SL.BI.bigSep_univ_comm, Idealize.SL.BI.bigSep_univ_comm (β := X3)]
    exact bigSep_congr fun x _ => bigSep_univ_equiv (dst x.1 x.2.1) _

/-! ## The cells allocated -/

variable (I : Inp F)

/-- The invariants, -/
def invs (κ : GSem nD τ sig → ℕ) : sProp 𝕄 :=
  iprop((bigSep (barCells ∪ xferCells) fun g => cellInv ER (Rd I) (κ g) g) ∗ bigSep Finset.univ fun c : Dev nD => reached ER (barCell c) 0)
instance invs_persistent (κ) : BI.Persistent (invs I κ) := by unfold invs; infer_instance
/-- a device's share. -/
def share (c : Dev nD) : sProp 𝕄 := iprop(atPos ER (barCell c) 0 ∅ 0 ∗ (bigSep Finset.univ fun x : X3 => openTok ER (cx x c)) ∗ barToks c ∗ toks c)

omit [FloatOps F] in
theorem share_sep : (bigSep Finset.univ share : sProp 𝕄) = iprop((bigSep Finset.univ fun c : Dev nD => atPos ER (barCell c) 0 ∅ 0)
    ∗ (bigSep Finset.univ fun c : Dev nD => bigSep Finset.univ fun x : X3 => openTok ER (cx x c)) ∗ bigSep Finset.univ fun c => iprop(barToks c ∗ toks c)) := by
  unfold share; rw [bigSep_sep', bigSep_sep']

theorem deal :
    (iprop((bigSep Finset.univ fun c : Dev nD => semVal (barCell c) 0) ∗ BI.own (ER (launchOf barCells xferCells (toksB ∪ toksT)))) : sProp 𝕄)
      ⊢ |={Set.univ}=> iprop(∃ κ, invs I κ ∗ bigSep Finset.univ share) := by
  iintro ⟨Hs, Hu⟩
  ihave Hs := (Entails.of_eq (show (bigSep Finset.univ fun c : Dev nD => (semVal (barCell c) 0 : sProp 𝕄)) = bigSep barCells fun g => semVal g 0 from
    by unfold barCells; rw [bigSep_map]; rfl)) $$ Hs
  imod (Rounds.fund_launch ER (Rd I) (S := barCells) (Sd := xferCells) cells_disj (fun _ _ h => h) (toksB ∪ toksT)) $$ [Hs Hu] with ⟨%κ, -, Hi, Hr, Ha, Ho, Ht⟩
  · isplitl [Hs] <;> iassumption
  ihave Ht := (toks_around (F := F)) $$ Ht
  imodintro
  iexists κ
  unfold invs
  isplitl [Hi Hr]
  · isplitl [Hi]; · iexact Hi
    iapply (Entails.of_eq (show (bigSep barCells fun g => (reached ER g 0 : sProp 𝕄)) = bigSep Finset.univ fun c : Dev nD => reached ER (barCell c) 0 from
      by unfold barCells; rw [bigSep_map]; rfl))
    iexact Hr
  iapply (Entails.of_eq (share_sep (F := F)).symm)
  isplitl [Ha]
  · iapply (Entails.of_eq (show (bigSep barCells fun g => (atPos ER g 0 ∅ 0 : sProp 𝕄)) = bigSep Finset.univ fun c : Dev nD => atPos ER (barCell c) 0 ∅ 0 from
      by unfold barCells; rw [bigSep_map]; rfl))
    iexact Ha
  isplitl [Ho]
  · iapply (Entails.of_eq (show (bigSep xferCells fun g => (openTok ER g : sProp 𝕄)) = bigSep Finset.univ fun c : Dev nD => bigSep Finset.univ fun x : X3 => openTok ER (cx x c) from
      by unfold xferCells; rw [bigSep_map, bigSep_univ_prod]; rfl))
    iexact Ho
  iexact Ht

/-! ## What a device starts with -/

/-- A device's start: the invariants and levels, its cells and duties, its credits. -/
def begin (c : Dev nD) : sProp 𝕄 :=
  iprop(∃ κ, ctx I κ ∗ barIn c ∗ (bigSep Finset.univ fun x : X3 => openTok ER (cx x c)) ∗ toks c
    ∗ bigSep Finset.univ fun x : X3 => cred (tallyAt (cx x c) () (amt x.1)))

theorem begin_intro (κ : GSem nD τ sig → ℕ) (c : Dev nD) :
    (iprop((invs I κ ∗ levAts L lv) ∗ share c ∗ Pipeline.launchCred O₀ c) : sProp 𝕄) ⊢ begin I c := by
  unfold invs share begin ctx barIn barToks
  iintro ⟨⟨⟨#Hi, #Hr⟩, #Hl⟩, ⟨Ha, Ho, ⟨Ht1, Ht2⟩, Ht⟩, Hc⟩
  ihave Hc := (creds (F := F) c) $$ Hc
  icases Hc with ⟨Hb, Hc⟩
  iexists κ
  isplitr
  · isplitl; · iexact Hi
    iexact Hl
  isplitl [Ha Hb Ht1 Ht2]
  · isplitl [Ha Hb]
    · isplitl [Ha] <;> iassumption
    isplitl [Ht1]
    · isplitl [Ht1]; · iexact Ht1
      iapply (show (bigSep Finset.univ fun c : Dev nD => (reached ER (barCell c) 0 : sProp 𝕄)) ⊢ reached ER (barCell (peer true c)) 0 from bigSep_elim (Finset.mem_univ _))
      iexact Hr
    · isplitl [Ht2]; · iexact Ht2
      iapply (show (bigSep Finset.univ fun c : Dev nD => (reached ER (barCell c) 0 : sProp 𝕄)) ⊢ reached ER (barCell (peer false c)) 0 from bigSep_elim (Finset.mem_univ _))
      iexact Hr
  isplitl [Ho]; · iexact Ho
  isplitl [Ht] <;> iassumption

/-- The tickets of every stream from the opened cells, the duties and the credits. -/
theorem tickets_intro (c : Dev nD) :
    (iprop((bigSep Finset.univ fun x : X3 => iprop(atPos ER (cx x c) 0 ∅ 0 ∗ reached ER (cx x c) 0)) ∗ toks c
        ∗ bigSep Finset.univ fun x : X3 => cred (tallyAt (cx x c) () (amt x.1))) : sProp 𝕄)
      ⊢ four fun j => iprop(tickets c j ∗ marks c j) := by
  unfold toks
  rw [by_kind, by_kind, by_kind, ← four_sep, ← four_sep]
  refine four_mono fun j => ?_
  unfold four tickets marks tick hA hD
  simp only [bigSep_sep']
  iintro ⟨⟨⟨A0, R0⟩, ⟨A1, #R1⟩, ⟨A2, R2⟩, A3, #R3⟩, ⟨T0, T1, T2, T3⟩, -, C1, -, C3⟩
  isplitl
  · isplitl [A1 C1]
    · isplitl [A1]; · iexact A1
      iexact C1
    isplitl [A0 R0 T0 T1]
    · isplitr [T1]
      · isplitl [A0]; · iexact A0
        isplitl [T0]; · iexact T0
        iexact R0
      iexact T1
    isplitl [A2 R2 T2 T3]
    · isplitr [T3]
      · isplitl [A2]; · iexact A2
        isplitl [T2]; · iexact T2
        iexact R2
      iexact T3
    isplitl [A3]; · iexact A3
    iexact C3
  · isplitr; · iexact R1
    iexact R3

omit [FloatOps F] in
/-- The cells after their round, one by one. -/
theorem done_elim (c : Dev nD) : (four (done c) : sProp 𝕄) = bigSep Finset.univ fun x : X3 => atPos ER (cx x c) 1 ∅ 0 := by
  rw [by_kind]; rfl

end Cert.KernelRun

end
-- ==== Proof.Rows.lean ====
/-
# The rows of the result

What the result holds at each row: the device's own share of the row, and the sum received for it.
-/
module

public import proofs.«01_k».proof.Proof.Body
public import Idealize.ShloMosaic.Lib.Pointwise.Index
public import Idealize.ShloMosaic.Lib.Pipeline.Value
@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- `n` rows of 512. -/
abbrev SR (n : ℕ) : Shape := ⟨2, ![n, 512]⟩
/-- The rows from `a` on. -/
abbrev rowsR (n a : ℕ) (inb : ∀ i, (![a, 0] : Fin 2 → ℕ) i + (SR n).size i ≤ S512x512.size i) : Rect S512x512 := Rect.unit (s := S512x512) ![a, 0] (SR n).size inb

theorem rows_emb (n a : ℕ) (inb) (p : Fin n) (k : Fin 512) (h : a + p.val < 512) : (rowsR n a inb).emb (ix2 p k) = ix2 ⟨a + p.val, h⟩ k := by
  funext i
  match i with
  | 0 => exact Fin.ext (show a + 1 * p.val = a + p.val by omega)
  | 1 => exact Fin.ext (show 0 + 1 * k.val = k.val by omega)

omit [FloatOps F] in
/-- A write of rows, read at a row. -/
theorem write_rows (n a : ℕ) (inb) (f : Vec F S512x512 .f32) (w : (SR n).Idx → Elt F .f32) (r k : Fin 512) :
    (((oM : Memref sig .tc .vmem S512x512 .f32).access (rowsR n a inb)).write (Elt F) f w Finset.univ : Vec F S512x512 .f32) (ix2 r k)
      = if h : a ≤ r.val ∧ r.val < a + n then w (ix2 ⟨r.val - a, by omega⟩ k) else f (ix2 r k) := by
  split
  · rename_i h
    have e : ((oM : Memref sig .tc .vmem S512x512 .f32).access (rowsR n a inb)).emb (ix2 ⟨r.val - a, by omega⟩ k) = ix2 r k :=
      (rows_emb n a inb ⟨r.val - a, by omega⟩ k (by dsimp only; omega)).trans (by congr 1; exact Fin.ext (by dsimp only; omega))
    exact (congrArg _ e.symm).trans (View.write_emb_of_mem (v := (oM : Memref sig .tc .vmem S512x512 .f32).access (rowsR n a inb)) f w (x := ix2 ⟨r.val - a, by omega⟩ k) (Finset.mem_univ _))
  · rename_i h
    refine View.write_of_not_mem (v := (oM : Memref sig .tc .vmem S512x512 .f32).access (rowsR n a inb)) f w Finset.univ fun hm => h ?_
    obtain ⟨x, -, e⟩ := Finset.mem_map.mp hm
    have e0 : a + 1 * (x 0).val = r.val := congrArg (fun i : S512x512.Idx => (i 0).val) e
    have hx : (x 0).val < n := (x 0).isLt
    omega

variable (I : Inp F) (c : Dev nD)

omit [FloatOps F] in
theorem sc_at (s : Shape) {α : Type} (v : s.Idx → α) (h : s.ShapeCasts s) (i : s.Idx) : shapeCast s v h i = v i := congrFun (shapeCast_self v h) i

/-- The row of a quarter. -/
abbrev at' (j : Fin 4) (p : Fin 128) : Fin 512 := ⟨row j + p.val, by have : row j ≤ 384 := by revert j; decide
                                                                     omega⟩

theorem X_at (j : Fin 4) (d : Dev nD) (p : Fin 128) (k : Fin 512) : X I j d (ix2 p k) = I.x d (ix2 (at' j p) k) := by
  refine (sc_at S128x512 _ _ _).trans ?_
  exact congrArg (I.x d) (rows_emb 128 (row j) (row_inb j) p k (at' j p).isLt)

/-- A half of the device's own rows. -/
def half (a : ℕ) (inb : ∀ i, (![a, 0] : Fin 2 → ℕ) i + S256x512.size i ≤ S512x512.size i) : Vec F S256x512 .bf16 :=
  (xM : Memref sig .tc .vmem S512x512 .bf16).view.readAt (Elt F) (Rect.unit (s := S512x512) ![a, 0] S256x512.size inb).toLoadRect (I.x c)

theorem half_at (a : ℕ) (inb) (p : Fin 256) (k : Fin 512) (h : a + p.val < 512) : half I c a inb (ix2 p k) = I.x c (ix2 ⟨a + p.val, h⟩ k) :=
  congrArg (I.x c) (rows_emb 256 a inb p k h)

theorem own1_at (a : ℕ) (inb) (f : Vec F S512x512 .f32) (r k : Fin 512) :
    own1 I c a inb f (ix2 r k) = if h : a ≤ r.val ∧ r.val < a + 256 then con2 (half I c a inb) (I.w1 c) (I.w2 c) (ix2 ⟨r.val - a, by omega⟩ k) else f (ix2 r k) :=
  write_rows 256 a inb f _ r k

theorem add1_at (j : Fin 4) (f : Vec F S512x512 .f32) (r k : Fin 512) :
    add1 I c j f (ix2 r k) = if h : row j ≤ r.val ∧ r.val < row j + 128 then
      FloatOps.addf (f (ix2 r k)) (FloatOps.extf .f32 bitsLt_bf16_f32 (Pv I j (peer (!way j) c) 6 (ix2 ⟨r.val - row j, by omega⟩ k))) else f (ix2 r k) := by
  refine (write_rows 128 (row j) (row_inb j) f _ r k).trans ?_
  split
  · rename_i h
    refine congrArg (fun y => FloatOps.addf y (FloatOps.extf .f32 bitsLt_bf16_f32 (Pv I j (peer (!way j) c) 6 (ix2 ⟨r.val - row j, by omega⟩ k)))) ((sc_at S128x512 _ _ _).trans (congrArg f ?_))
    refine (rows_emb 128 (row j) (row_inb j) ⟨r.val - row j, by omega⟩ k (by dsimp only; omega)).trans ?_
    congr 1; exact Fin.ext (by dsimp only; omega)
  · rfl

/-- The device's own share of its rows. -/
def ownV (r k : Fin 512) : F .f32 :=
  if h : 256 ≤ r.val then con2 (half I c 256 inb_S512x512_S256x512_256_0) (I.w1 c) (I.w2 c) (ix2 ⟨r.val - 256, by omega⟩ k)
  else con2 (half I c 0 inb_S512x512_S256x512_0_0) (I.w1 c) (I.w2 c) (ix2 ⟨r.val, by omega⟩ k)

theorem own_all (f : Vec F S512x512 .f32) (r k : Fin 512) :
    own1 I c 256 inb_S512x512_S256x512_256_0 (own1 I c 0 inb_S512x512_S256x512_0_0 f) (ix2 r k) = ownV I c r k := by
  have hr := r.isLt
  unfold ownV
  rw [own1_at, own1_at]
  by_cases h : 256 ≤ r.val
  · rw [dif_pos ⟨h, by omega⟩, dif_pos h]
  · rw [dif_neg (by omega), dif_pos ⟨Nat.zero_le _, by omega⟩, dif_neg h]; rfl

theorem add1_out (j : Fin 4) (f : Vec F S512x512 .f32) (r k : Fin 512) (h : r.val < row j ∨ row j + 128 ≤ r.val) :
    add1 I c j f (ix2 r k) = f (ix2 r k) := (add1_at I c j f r k).trans (dif_neg (by omega))

theorem add1_in (j : Fin 4) (f : Vec F S512x512 .f32) (p : Fin 128) (k : Fin 512) :
    add1 I c j f (ix2 (at' j p) k)
      = FloatOps.addf (f (ix2 (at' j p) k)) (FloatOps.extf .f32 bitsLt_bf16_f32 (Pv I j (peer (!way j) c) 6 (ix2 p k))) := by
  have hp := p.isLt
  refine (add1_at I c j f _ k).trans ((dif_pos ⟨by dsimp only; omega, by dsimp only; omega⟩).trans ?_)
  congr 4
  exact Fin.ext (by dsimp only; omega)

/-- The result at a row of quarter `j`: the own share and the last sum received. -/
theorem outAt_at (f : Vec F S512x512 .f32) (j : Fin 4) (p : Fin 128) (k : Fin 512) :
    outAt I c f (ix2 (at' j p) k)
      = FloatOps.addf (ownV I c (at' j p) k) (FloatOps.extf .f32 bitsLt_bf16_f32 (Pv I j (peer (!way j) c) 6 (ix2 p k))) := by
  have hp := p.isLt
  have r0 : row 0 = 0 := rfl
  have r1 : row 1 = 256 := rfl
  have r2 : row 2 = 128 := rfl
  have r3 : row 3 = 384 := rfl
  unfold outAt
  obtain rfl | rfl | rfl | rfl : j = 0 ∨ j = 1 ∨ j = 2 ∨ j = 3 := by revert j; decide
  · rw [add1_out I c 3 _ _ k (by dsimp only; omega), add1_out I c 2 _ _ k (by dsimp only; omega), add1_out I c 1 _ _ k (by dsimp only; omega), add1_in, own_all]
  · rw [add1_out I c 3 _ _ k (by dsimp only; omega), add1_out I c 2 _ _ k (by dsimp only; omega), add1_in, add1_out I c 0 _ _ k (by dsimp only; omega), own_all]
  · rw [add1_out I c 3 _ _ k (by dsimp only; omega), add1_in, add1_out I c 1 _ _ k (by dsimp only; omega), add1_out I c 0 _ _ k (by dsimp only; omega), own_all]
  · rw [add1_in, add1_out I c 2 _ _ k (by dsimp only; omega), add1_out I c 1 _ _ k (by dsimp only; omega), add1_out I c 0 _ _ k (by dsimp only; omega), own_all]

/-- Every row is a row of a quarter. -/
theorem row_cases (r : Fin 512) : ∃ (j : Fin 4) (p : Fin 128), r = at' j p := by
  have hr := r.isLt
  by_cases h1 : r.val < 128
  · exact ⟨0, ⟨r.val, h1⟩, Fin.ext (show r.val = 0 + r.val by omega)⟩
  by_cases h2 : r.val < 256
  · exact ⟨2, ⟨r.val - 128, by omega⟩, Fin.ext (show r.val = 128 + (r.val - 128) by omega)⟩
  by_cases h3 : r.val < 384
  · exact ⟨1, ⟨r.val - 256, by omega⟩, Fin.ext (show r.val = 256 + (r.val - 256) by omega)⟩
  · exact ⟨3, ⟨r.val - 384, by omega⟩, Fin.ext (show r.val = 384 + (r.val - 384) by omega)⟩

/-- It does not depend on what was there before. -/
theorem outAt_indep (f g : Vec F S512x512 .f32) : outAt I c f = outAt I c g := by
  funext i
  obtain ⟨r, k, rfl⟩ : ∃ r k, i = ix2 r k := ⟨i 0, i 1, eq_ix2 i⟩
  obtain ⟨j, p, rfl⟩ := row_cases r
  rw [outAt_at, outAt_at]

end Cert.KernelRun

end
-- ==== Proof.Region.lean ====
/- The kernel's region: what it holds before, during and after its one point, and the point's obligation from the body's. -/
module

public import proofs.«01_k».proof.Proof.Deal
public import proofs.«01_k».proof.Proof.Rows
public import proofs.«01_k».proof.Proof.Gen.KernelIdeal.Points

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's buffers at the launch, and after the host's casts. -/
abbrev V₀ (c : Dev nD) : Valuation τ sig (Elt F) := fun b => m ((c : Dev nD), b)
abbrev V₁ (c : Dev nD) : Valuation τ sig (Elt F) := StableHlo.after hostOps0 (V₀ m c)

/-- What the kernel reads on each device. -/
def inpOf : Inp F := ⟨fun c => V₁ m c main_v1, fun c => V₁ m c main_v2, fun c => V₁ m c main_v3⟩

/-- What the kernel leaves on a device. -/
def res (c : Dev nD) : Vec F S512x512 .f32 := outAt (inpOf m) c (V₁ m c main_v4)

/-- The cells back at zero. -/
def zeros (c : Dev nD) : sProp 𝕄 := iprop(semVal (barCell c) 0 ∗ bigSep Finset.univ fun x : X3 => semVal (cx x c) 0)

/-- What the body starts with beside its windows, but for the scratch buffers. -/
def ready (c : Dev nD) : sProp 𝕄 := iprop(∃ κ, ctx (inpOf m) κ ∗ barIn c ∗ four fun j => iprop(tickets c j ∗ marks c j))

def dat (c : Dev nD) : Dat τ (Elt F) Unit ℕ UU ℕ cfg0 c where
  A w := V₁ m c (Proc.devRef .tc (Pipeline.arrRef spec0 w))
  after w _ := match w with
    | ⟨0, _⟩ => (inpOf m).x c
    | ⟨1, _⟩ => (inpOf m).w1 c
    | ⟨2, _⟩ => (inpOf m).w2 c
    | ⟨3, _⟩ => res m c
  Φ t := if t.val = 0 then iprop(ready m c ∗ bufs c) else iprop(zeros c ∗ bufs c)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_start (c : Dev nD) : (dat m c).owed t0_0.castSucc = O₀ c := by
  show (if t0_0.castSucc.val = 0 then O₀ c else 0) = _
  exact if_pos rfl
theorem owed_end (c : Dev nD) : (dat m c).owed t0_0.succ = 0 := by
  show (if t0_0.succ.val = 0 then O₀ c else 0) = _
  exact if_neg (by decide)
theorem Φ_start (c : Dev nD) : (dat m c).Φ t0_0.castSucc = iprop(ready m c ∗ bufs c) := by
  show (if t0_0.castSucc.val = 0 then iprop(ready m c ∗ bufs c) else iprop(zeros c ∗ bufs c)) = _
  exact if_pos rfl
theorem Φ_end (c : Dev nD) : (dat m c).Φ t0_0.succ = iprop(zeros c ∗ bufs c) := by
  show (if t0_0.succ.val = 0 then iprop(ready m c ∗ bufs c) else iprop(zeros c ∗ bufs c)) = _
  exact if_neg (by decide)

theorem owes_in (c : Dev nD) (t) (O : CellTallies nD τ sig Unit) (h : (dat m c).owed t = O) : (ow c O : sProp 𝕄) ⊢ (dat m c).owesAt () t := by
  unfold ow Dat.owesAt Pipeline.owesWithin Dat.bound
  rw [h, show (dat m c).recorded t = Set.univ from rfl]
  iintro ⟨%W, HO⟩
  iexists W
  isplitr
  · ipureintro; exact fun _ _ => Or.inl trivial
  iexact HO
theorem owes_out (c : Dev nD) (t) (O : CellTallies nD τ sig Unit) (h : (dat m c).owed t = O) : (dat m c).owesAt () t ⊢ (ow c O : sProp 𝕄) := by
  unfold ow Dat.owesAt Pipeline.owesWithin
  rw [h]
  iintro ⟨%W, -, HO⟩
  iexists W; iexact HO

omit [FloatOps F] in
theorem scratch_eq (c : Dev nD) : (Pipeline.scopedRest spec0 c : sProp 𝕄) = bufs c := scopedRest0_eq c

/-! ## The windows -/

theorem before_0 (c : Dev nD) (d) : (dat m c).before 0 t0_0 d = (inpOf m).x c := by
  unfold Dat.before; rw [if_pos (by decide)]
  have hz : (fun a => (win0_0.index t0_0) a * main_v1.ty.shape.size a) = fun _ => 0 := funext fun a => by fin_cases a <;> decide
  have hi : ∀ a, (fun a => (win0_0.index t0_0) a * main_v1.ty.shape.size a) a + main_v1.ty.shape.size a ≤ main_v1.ty.shape.size a := fun a => by rw [hz]; exact Nat.le_of_eq (Nat.zero_add _)
  have e : (dat m c).fetched 0 t0_0 d = ((cfg0.win 0).blk t0_0).view.read (Elt F) (V₁ m c main_v1) := rfl
  rw [e]
  exact Memref.read_access_unit_zero (Elt F) main_v1 hz hi (V₁ m c main_v1)
theorem before_1 (c : Dev nD) (d) : (dat m c).before 1 t0_0 d = (inpOf m).w1 c := by
  unfold Dat.before; rw [if_pos (by decide)]
  have hz : (fun a => (win0_1.index t0_0) a * main_v2.ty.shape.size a) = fun _ => 0 := funext fun a => by fin_cases a <;> decide
  have hi : ∀ a, (fun a => (win0_1.index t0_0) a * main_v2.ty.shape.size a) a + main_v2.ty.shape.size a ≤ main_v2.ty.shape.size a := fun a => by rw [hz]; exact Nat.le_of_eq (Nat.zero_add _)
  have e : (dat m c).fetched 1 t0_0 d = ((cfg0.win 1).blk t0_0).view.read (Elt F) (V₁ m c main_v2) := rfl
  rw [e]
  exact Memref.read_access_unit_zero (Elt F) main_v2 hz hi (V₁ m c main_v2)
theorem before_2 (c : Dev nD) (d) : (dat m c).before 2 t0_0 d = (inpOf m).w2 c := by
  unfold Dat.before; rw [if_pos (by decide)]
  have hz : (fun a => (win0_2.index t0_0) a * main_v3.ty.shape.size a) = fun _ => 0 := funext fun a => by fin_cases a <;> decide
  have hi : ∀ a, (fun a => (win0_2.index t0_0) a * main_v3.ty.shape.size a) a + main_v3.ty.shape.size a ≤ main_v3.ty.shape.size a := fun a => by rw [hz]; exact Nat.le_of_eq (Nat.zero_add _)
  have e : (dat m c).fetched 2 t0_0 d = ((cfg0.win 2).blk t0_0).view.read (Elt F) (V₁ m c main_v3) := rfl
  rw [e]
  exact Memref.read_access_unit_zero (Elt F) main_v3 hz hi (V₁ m c main_v3)

omit [FloatOps F] in
theorem owns_whole (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ ((c : Thread nD τ).loc b ↦{fullShare} f)) := by
  unfold owns; simp only [Memref.view_whole, View.read_whole, View.set_whole]

/-- The result's array after the point. -/
theorem arr_out (c : Dev nD) : (dat m c).arrAt 3 cfg0.N = res m c := by
  rw [show cfg0.N = t0_0.val + 1 from N_0, (dat m c).arrAt_succ 3 t0_0, if_pos (flush0_3 t0_0)]
  have hz : (fun a => (win0_3.index t0_0) a * main_v4.ty.shape.size a) = fun _ => 0 := funext fun a => by fin_cases a <;> decide
  exact Memref.write_access_unit_zero_univ (Elt F) main_v4 hz (fun a => by fin_cases a <;> decide) _ _

/-! ## The point -/

theorem fr_mem (c : Dev nD) : (iprop((four fun j => iprop(done c j ∗ mem c j))) : sProp 𝕄) ⊢ iprop((bigSep Finset.univ fun x : X3 => atPos ER (cx x c) 1 ∅ 0) ∗ bufs c) := by
  rw [four_sep, done_elim]
  iintro ⟨H1, H2⟩
  isplitl [H1]; · iexact H1
  iapply (bufs_join (F := F) c); iapply (mem_cols (F := F) c); iexact H2

theorem all_mem (c : Dev nD) : (iprop((four fun j => iprop(tickets c j ∗ marks c j)) ∗ bufs c) : sProp 𝕄) ⊢ four fun j => iprop(tickets c j ∗ marks c j ∗ mem c j) := by
  iintro ⟨H1, H2⟩
  ihave H2 := (bufs_split (F := F) c) $$ H2
  ihave H2 := (cols_mem (F := F) c) $$ H2
  unfold four
  icases H1 with ⟨⟨A0, B0⟩, ⟨A1, B1⟩, ⟨A2, B2⟩, A3, B3⟩
  icases H2 with ⟨C0, C1, C2, C3⟩
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2 B2 C2]
  · isplitl [A2]; · iexact A2
    isplitl [B2]; · iexact B2
    iexact C2
  isplitl [A3]; · iexact A3
  isplitl [B3]; · iexact B3
  iexact C3

omit [FloatOps F] in
theorem with_all {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem inv_pos (I : Inp F) (κ : GSem nD τ sig → ℕ) (c : Dev nD) (x : X3) :
    (iprop(ctx I κ ∗ atPos ER (cx x c) 1 ∅ 0) : sProp 𝕄) ⊢ iprop(cellInv ER (Rd I) (κ (cx x c)) (cx x c) ∗ atPos ER (cx x c) (0 + 1) ∅ 0) := by
  iintro ⟨#H1, H2⟩
  isplitr; · iapply (inv_at I κ (mem_xfer x.1 x.2.1 x.2.2 c)); iexact H1
  iexact H2

/-- The cells closed after the body. -/
theorem close (I : Inp F) (κ : GSem nD τ sig → ℕ) (c : Dev nD) :
    (iprop(ctx I κ ∗ atPos ER (barCell c) 1 ∅ 0 ∗ bigSep Finset.univ fun x : X3 => atPos ER (cx x c) 1 ∅ 0) : sProp 𝕄) ⊢ |={Set.univ}=> zeros c := by
  unfold zeros
  iintro ⟨#Hc, Hb, Hx⟩
  imod (Rounds.cell_close ER (Rd I) (κ := κ (barCell c)) (Set.mem_univ _) (fun h => h) (R := 0 + 1) (duties_later I (barCell c))) $$ [Hb] with Hz
  · isplitr; · iapply (inv_at I κ (mem_bar c)); iexact Hc
    iexact Hb
  imod (Rounds.cells_close ER (Rd I) (Finset.univ : Finset X3) (fun x => cx x c) (fun x => κ (cx x c)) (fun _ _ => Set.mem_univ _) (fun _ _ h => h) (fun _ => 0 + 1)
    (fun x _ => duties_later I (cx x c))) $$ [Hx] with Hy
  · iapply (with_all (R := ctx I κ) fun (x : X3) _ => inv_pos I κ c x)
    isplitr; · iexact Hc
    iexact Hx
  imodintro
  isplitl [Hz] <;> iassumption

theorem wpc_fupd (c : Dev nD) (k : P F) (Q : PUnit → sProp 𝕄) : wpc c k (fun a => iprop(|={Set.univ}=> Q a)) ⊢ wpc c k Q := by
  unfold wpc; exact wp_fupd _ _ _ _ _

theorem wp_point (I : Inp F) (κ : GSem nD τ sig → ℕ) (c : Dev nD) (f : Vec F S512x512 .f32) (Q : PUnit → sProp 𝕄) :
    iprop(bodyIn I κ c f ∗ (bodyOut I c f -∗ |={Set.univ}=> Q ⟨⟩)) ⊢ wp frame (wpE (defs₀ (F := F)) 𝒱₀ (c : Thread nD τ) none) Set.univ (bodyAt0 t0_0) Q := by
  rw [body_eq]
  exact (wp_body I κ c f fun a => iprop(|={Set.univ}=> Q a)).trans (wpc_fupd c body Q)

theorem body_obligation (c : Dev nD) : BodyObligation (dat (F := F) m c) (defs₀ (F := F)) 𝒱₀ () Set.univ := fun t => by
  obtain rfl := fin_N0 t
  rw [bigSep_W0, bigSep_W0]
  simp only [owns_whole]
  rw [Φ_start, Φ_end]
  unfold ready
  iintro ⟨⟨⟨%κ, #Hc, Hb, Ht⟩, Hs⟩, HO, ⟨%d0, %f0, %h0, H0⟩, ⟨%d1, %f1, %h1, H1⟩, ⟨%d2, %f2, %h2, H2⟩, ⟨%d3, %f3, %h3, H3⟩⟩
  rw [before_0] at h0
  rw [before_1] at h1
  rw [before_2] at h2
  subst h0 h1 h2
  iapply (wp_point (inpOf m) κ c f3 _)
  isplitl
  · unfold bodyIn inp outp
    isplitr; · iexact Hc
    isplitl [H0 H1 H2]
    · isplitl [H0]; · iexact H0
      isplitl [H1] <;> iassumption
    isplitl [H3]; · iexact H3
    isplitl [Hb]; · iexact Hb
    isplitr [HO]
    · iapply (all_mem (F := F) c)
      isplitl [Ht] <;> iassumption
    iapply (owes_out m c _ _ (owed_start m c)); iexact HO
  unfold bodyOut inp outp
  iintro ⟨⟨H0, H1, H2⟩, H3, Ha, Hd, HO⟩
  ihave Hd := (fr_mem (F := F) c) $$ Hd
  icases Hd with ⟨Hd, Hs⟩
  imod (close (inpOf m) κ c) $$ [Ha Hd] with Hz
  · isplitr; · iexact Hc
    isplitl [Ha] <;> iassumption
  imodintro
  isplitl [Hz Hs]
  · isplitl [Hz] <;> iassumption
  isplitl [HO]; · iapply (owes_in m c _ _ (owed_end m c)); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro
  exact outAt_indep (inpOf m) c _ _

end Cert.KernelRun

end
-- ==== Proof.Run.lean ====
/- The whole run: the host's casts, the region, and what every device holds at the end. -/
module

public import proofs.«01_k».proof.Proof.Region

@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A buffer of a device. -/
abbrev at_ (c : Dev nD) (b : Ref sig .tc) (f : b.ty.Contents (Elt F)) : sProp 𝕄 := (c : Thread nD τ).loc b ↦{fullShare} f

/-- The buffers outside the kernel. -/
def host : Finset (DevRef τ sig) := (StableHlo.tcRefs τ sig).filter fun b => ¬ b.isScoped

omit [FloatOps F] in
theorem host_held (c : Dev nD) (W : Valuation τ sig (Elt F)) : (unscopedBufs c (fun b => W b) : sProp 𝕄) = StableHlo.held (c : Thread nD τ) host W := by
  unfold unscopedBufs StableHlo.held host StableHlo.tcRefs
  rw [Finset.filter_map, BI.bigSep_map]
  rfl

theorem casts_sub : ∀ op ∈ (hostOps0 : List (HloOp τ sig (Elt F))), op.bufs ⊆ host := fun op h => by
  simp only [List.mem_cons, List.mem_nil_iff, or_false] at h
  rcases h with rfl | rfl | rfl
  · show ({Proc.devRef .tc main_arg0, Proc.devRef .tc main_v1} : Finset (DevRef τ sig)) ⊆ host; decide
  · show ({Proc.devRef .tc main_arg1, Proc.devRef .tc main_v2} : Finset (DevRef τ sig)) ⊆ host; decide
  · show ({Proc.devRef .tc main_arg2, Proc.devRef .tc main_v3} : Finset (DevRef τ sig)) ⊆ host; decide
theorem casts_fresh : ∀ op ∈ (hostOps0 : List (HloOp τ sig (Elt F))), op.fresh = ∅ := fun op h => by
  simp only [List.mem_cons, List.mem_nil_iff, or_false] at h
  rcases h with rfl | rfl | rfl <;> rfl

local notation "ℍ" => Pipeline.HostSeg (Name := ℕ) (U := UU) (pcfgs (F := F)) defs₀ 𝒱₀ L lv

/-- The host's casts. -/
def segH : ℍ := Pipeline.HostSeg.ofOps _ _ _ _ _ host hostOps0 casts_sub casts_fresh (V₀ m)
  fun c => iprop(begin (inpOf m) c ∗ owes (c : Thread nD τ) (O₀ c) ∅)

theorem own_facts : Pipeline.OwnSemFacts spec0 osem where
  isScoped x := by
    have h : ∀ q : DmaSem sig, (SemLoc.dma q : SemLoc sig).isScoped .tc = true := by decide
    exact h _
  inj := osem_inj
  disj x w s e := by
    have h : ∀ (w : Fin 4) (s : Fin (spec0 w).nbuf), ((spec0 w).sem s).val < 4 := by decide
    have := dsem_ge x.1 x.2.1 x.2.2
    have := h w s
    rw [← SemLoc.dma.inj e] at this
    omega

theorem own_eq (c : Dev nD) : (Pipeline.ownSems0 osem c : sProp 𝕄) = bigSep Finset.univ fun x : X3 => semVal (cx x c) 0 := rfl

/-- The transfer cells opened. -/
theorem open_all (I : Inp F) (c : Dev nD) :
    (iprop(begin I c ∗ bigSep Finset.univ fun x : X3 => semVal (cx x c) 0) : sProp 𝕄)
      ⊢ |={Set.univ}=> iprop(∃ κ, ctx I κ ∗ barIn c ∗ four fun j => iprop(tickets c j ∗ marks c j)) := by
  unfold begin
  iintro ⟨⟨%κ, #Hc, Hb, Ho, Ht, Hcr⟩, Hs⟩
  imod (Rounds.cells_open ER (Rd I) (Finset.univ : Finset X3) (fun x => cx x c) (fun x => κ (cx x c)) (fun _ _ => Set.mem_univ _)) $$ [Ho Hs] with Ha
  · isplitr [Hs]
    · iapply (with_all (R := ctx I κ) fun (x : X3) _ => Idealize.SL.BI.Laws.sep_mono_left (inv_at I κ (mem_xfer x.1 x.2.1 x.2.2 c)))
      isplitr; · iexact Hc
      iexact Ho
    iexact Hs
  imodintro
  iexists κ
  isplitr; · iexact Hc
  isplitl [Hb]; · iexact Hb
  iapply (tickets_intro (F := F) c)
  isplitl [Ha]; · iexact Ha
  isplitl [Ht] <;> iassumption

/-- What a device holds at the end. -/
def fine (c : Dev nD) : sProp 𝕄 :=
  iprop((at_ c main_arg0 (V₁ m c main_arg0) ∗ at_ c main_arg1 (V₁ m c main_arg1) ∗ at_ c main_arg2 (V₁ m c main_arg2)) ∗ at_ c main_v4 (res m c) ∗ semVal (barCell c) 0)

theorem arrs_eq (c : Dev nD) (Fa) :
    ((pdats (F := F) m 0 c).arrays Fa : sProp 𝕄) = iprop(at_ c main_v1 (Fa 0) ∗ at_ c main_v2 (Fa 1) ∗ at_ c main_v3 (Fa 2) ∗ at_ c main_v4 (Fa 3)) := by
  rw [Pipeline.arrays_eq (Pipeline.pin (pcfgs (F := F)) adm) (pdats m) 0 c launch0.arr_whole ((pdats m 0 c).share_full fun _ => rfl) Fa, bigSep_W0]

theorem owed_above (c : Dev nD) (t) (l : ℕ) (h : l = 0) : Above ((dat (F := F) m c).owed t) l := by
  subst h
  show Above (if t.val = 0 then O₀ c else 0) 0
  split
  · exact Above.O₀ c
  · exact Above.zero 0

/-- The region. -/
def reg : Pipeline.RegionSeg (pcfgs (F := F)) adm (pdats m) () defs₀ 𝒱₀ L lv 0 where
  win := launch0.win.to₀
  block_pos := launch0.block_pos
  stage_whole := launch0.stage_whole
  K := X3
  osem := osem
  ho := own_facts
  hbody c := (body_obligation m c).loose
  hwaits c := Pipeline.cellsWaits_intro _ (pdats m) () 0 c fun w s t =>
    mayWait (F := F) c _ (owed_above m c t _ (by
      have h : ∀ (w : Fin 4) (s : Fin (spec0 w).nbuf), lv ((c : Thread nD τ), .dma ((spec0 w).sem s)) () = 0 := by
        have h' : ∀ (w : Fin 4) (s : Fin (spec0 w).nbuf), ((spec0 w).sem s).val < 4 := by decide
        exact fun w s => if_pos (h' w s)
      exact h w s))
  pre c := iprop(StableHlo.held (c : Thread nD τ) host (V₁ m c) ∗ (begin (inpOf m) c ∗ owes (c : Thread nD τ) (O₀ c) ∅))
  post c := iprop(fine m c ∗ ow c 0)
  X c := ready m c
  Y c := semVal (barCell c) 0
  Z c := Pipeline.unscopedRest (Ix := Unit) (Name := ℕ) (U := UU) (Lvl := ℕ) spec0 c (fun b => V₁ m c b)
  hentry c := by
    have hs := Pipeline.arrays_of_unscopedBufs (pcfgs (F := F)) adm (pdats m) launch0.win launch0.arr_whole c
      ((pdats m 0 c).share_full fun _ => rfl) (fun b => V₁ m c b) fun _ => rfl
    rw [← host_held, own_eq]
    iintro ⟨⟨Hu, Hb, HO⟩, Hs, -⟩
    ihave Hu := hs $$ Hu
    icases Hu with ⟨Ha, Hr⟩
    imod (open_all (inpOf m) c) $$ [Hb Hs] with Hx
    · isplitl [Hb] <;> iassumption
    imodintro
    isplitl [Ha]; · iexact Ha
    isplitr; · unfold Pipeline.prefHeld; rw [show (Finset.univ : Finset (Fin 0)) = ∅ from rfl, BI.bigSep_empty]; iempintro
    isplitl [HO]
    · iapply (owes_in m c 0 (O₀ c) (owed_start m c)); unfold ow; iexists ∅; iexact HO
    isplitl [Hx]
    · unfold ready; iexact Hx
    iexact Hr
  hin c := by
    rw [show (pdats m 0 c).Φ 0 = iprop(ready m c ∗ bufs c) from Φ_start m c, ← scratch_eq]
    iintro ⟨Hx, -, Hs⟩
    isplitl [Hx] <;> iassumption
  hout c := by
    rw [show (pdats m 0 c).Φ (Fin.last _) = iprop(zeros c ∗ bufs c) from Φ_end m c, own_eq, ← scratch_eq]
    unfold zeros
    iintro ⟨⟨Hb, Hx⟩, Hs⟩
    isplitl [Hb]; · iexact Hb
    isplitl [Hx] <;> iassumption
  hexit c := by
    rw [arrs_eq, unscopedRest0_eq, show (pdats (F := F) m 0 c).arrAt 3 (Pipeline.pin (pcfgs (F := F)) adm 0).N = res m c from arr_out m c]
    unfold fine
    iintro ⟨⟨-, -, -, H4⟩, HO, Hb, Hr⟩
    imodintro
    isplitr [HO]
    · isplitl [Hr]; · iexact Hr
      isplitl [H4] <;> iassumption
    iapply (owes_out m c (Fin.last _) 0 (owed_end m c)); iexact HO

def segs : List (Pipeline.Seg (pcfgs (F := F)) adm (pdats m) () defs₀ 𝒱₀ L lv) := [.host (segH m), .region (reg m)]

theorem main_eq (c : Dev nD) : main (F := F) c = Pipeline.Seg.run (segs m) := main_segs adm (pdats m) () 𝒱₀ L lv (segH m) (reg m) rfl c

/-! ## The launch -/

omit [FloatOps F] in
theorem bar_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch hands out: all of it to device 0, to be dealt. -/
def pool (c : Dev nD) : sProp 𝕄 := if c = 0 then BI.own (ER (launchOf barCells xferCells (toksB ∪ toksT))) else iprop(emp)

omit [FloatOps F] in
theorem pool_first : (pool 0 : sProp 𝕄) = BI.own (ER (launchOf barCells xferCells (toksB ∪ toksT))) := if_pos rfl
omit [FloatOps F] in
theorem pool_other (c : Dev nD) (h : c ≠ 0) : (pool c : sProp 𝕄) = iprop(emp) := if_neg h

omit [FloatOps F] in
theorem pool_take : (bigSep Finset.univ pool : sProp 𝕄) ⊢ BI.own (ER (launchOf barCells xferCells (toksB ∪ toksT))) := by
  rw [← pool_first]
  exact bigSep_elim (Finset.mem_univ (0 : Dev nD))
omit [FloatOps F] in
theorem pool_give : BI.own (ER (launchOf barCells xferCells (toksB ∪ toksT))) ⊢ (bigSep Finset.univ pool : sProp 𝕄) := by
  rw [bigSep_univ_at _ (0 : Dev nD), pool_first, bigSep_congr (s := Finset.univ.erase (0 : Dev nD)) fun c h => pool_other c (Finset.ne_of_mem_erase h)]
  iintro H
  isplitl; · iexact H
  iapply (BI.bigSep_of_persistent (Finset.univ.erase (0 : Dev nD)) (iprop(emp) : sProp 𝕄))
  iempintro

abbrev T₀ (c : Dev nD) : sProp 𝕄 := iprop(StableHlo.held (c : Thread nD τ) host (V₀ m c) ∗ (begin (inpOf m) c ∗ owes (c : Thread nD τ) (O₀ c) ∅))

theorem init_one (κ : GSem nD τ sig → ℕ) (c : Dev nD) :
    (iprop((invs (inpOf m) κ ∗ levAts L lv) ∗ (share c ∗ (unscopedBufs c (fun b => m ((c : Thread nD τ).loc b)) ∗ owes (c : Thread nD τ) (O₀ c) ∅ ∗ Pipeline.launchCred O₀ c))) : sProp 𝕄)
      ⊢ T₀ m c := by
  rw [show (unscopedBufs c (fun b => m ((c : Thread nD τ).loc b)) : sProp 𝕄) = StableHlo.held (c : Thread nD τ) host (V₀ m c) from host_held c (V₀ m c)]
  iintro ⟨#Hi, Hs, Hh, HO, Hc⟩
  isplitl [Hh]; · iexact Hh
  isplitr [HO]
  · iapply (begin_intro (inpOf m) κ c)
    isplitr; · iexact Hi
    isplitl [Hs] <;> iassumption
  iexact HO

theorem init_split (c : Dev nD) :
    (iprop(unscopedBufs c (fun b => m ((c : Thread nD τ).loc b)) ∗ unscopedSems0 c ∗ owes (c : Thread nD τ) (O₀ c) ∅ ∗ Pipeline.launchCred O₀ c ∗ prngReg c (ρ c) ∗ pool c) : sProp 𝕄)
      ⊢ iprop((semVal (barCell c) 0 ∗ pool c) ∗ (unscopedBufs c (fun b => m ((c : Thread nD τ).loc b)) ∗ owes (c : Thread nD τ) (O₀ c) ∅ ∗ Pipeline.launchCred O₀ c)) := by
  rw [bar_eq]
  iintro ⟨H1, H2, H3, H4, -, H5⟩
  isplitl [H2 H5]
  · isplitl [H2] <;> iassumption
  isplitl [H1]; · iexact H1
  isplitl [H3] <;> iassumption

theorem init_sep :
    (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ pool c) : sProp 𝕄)
      ⊢ iprop(((bigSep Finset.univ fun c : Dev nD => semVal (barCell c) 0) ∗ BI.own (ER (launchOf barCells xferCells (toksB ∪ toksT))))
        ∗ bigSep Finset.univ fun c : Dev nD => iprop(unscopedBufs c (fun b => m ((c : Thread nD τ).loc b)) ∗ owes (c : Thread nD τ) (O₀ c) ∅ ∗ Pipeline.launchCred O₀ c)) := by
  refine (bigSep_mono fun c _ => init_split m ρ c).trans ?_
  rw [bigSep_sep', bigSep_sep']
  exact Idealize.SL.BI.Laws.sep_mono_left (Idealize.SL.BI.Laws.sep_mono_right pool_take)

omit [FloatOps F] in
theorem pair_up (A B : Dev nD → sProp 𝕄) : iprop(bigSep Finset.univ A ∗ bigSep Finset.univ B) ⊢ bigSep Finset.univ fun c => iprop(A c ∗ B c) := by
  rw [bigSep_sep']

theorem init :
    (iprop((bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ pool c)) ∗ levAts L lv) : sProp 𝕄)
      ⊢ |={Set.univ}=> bigSep Finset.univ (T₀ m) := by
  iintro ⟨H, #Hl⟩
  ihave H := (init_sep m ρ) $$ H
  icases H with ⟨HA, HB⟩
  imod (deal (inpOf m)) $$ HA with ⟨%κ, #Hi, HS⟩
  imodintro
  iapply (with_all (R := iprop(invs (inpOf m) κ ∗ levAts L lv)) fun c _ => init_one m κ c)
  isplitr
  · isplitr; · iexact Hi
    iexact Hl
  iapply (pair_up share _)
  isplitl [HS] <;> iassumption

/-! ## What the casts leave -/

theorem V₁_arg0 (c : Dev nD) : V₁ m c main_arg0 = m ((c : Thread nD τ).loc main_arg0) := by
  show StableHlo.after hostOps0 (V₀ m c) (Proc.devRef .tc main_arg0) = _
  after_results
theorem V₁_arg1 (c : Dev nD) : V₁ m c main_arg1 = m ((c : Thread nD τ).loc main_arg1) := by
  show StableHlo.after hostOps0 (V₀ m c) (Proc.devRef .tc main_arg1) = _
  after_results
theorem V₁_arg2 (c : Dev nD) : V₁ m c main_arg2 = m ((c : Thread nD τ).loc main_arg2) := by
  show StableHlo.after hostOps0 (V₀ m c) (Proc.devRef .tc main_arg2) = _
  after_results
theorem inp_x (c : Dev nD) : (inpOf m).x c = truncf .bf16 (m ((c : Thread nD τ).loc main_arg0) : FVec F S512x512 .f32) bitsLt_bf16_f32 := by
  show StableHlo.after hostOps0 (V₀ m c) (Proc.devRef .tc main_v1) = _
  after_results
theorem inp_w1 (c : Dev nD) : (inpOf m).w1 c = truncf .bf16 (m ((c : Thread nD τ).loc main_arg1) : FVec F S512x2048 .f32) bitsLt_bf16_f32 := by
  show StableHlo.after hostOps0 (V₀ m c) (Proc.devRef .tc main_v2) = _
  after_results
theorem inp_w2 (c : Dev nD) : (inpOf m).w2 c = truncf .bf16 (m ((c : Thread nD τ).loc main_arg2) : FVec F S2048x512 .f32) bitsLt_bf16_f32 := by
  show StableHlo.after hostOps0 (V₀ m c) (Proc.devRef .tc main_v3) = _
  after_results

/-! ## The run -/

def u₀ : UU :=
  (initOf (Pipeline.cells (Pipeline.pin (pcfgs (F := F)) adm) cellOf_inj) (Pipeline.launchToks (Pipeline.pin (pcfgs (F := F)) adm) cellOf_inj),
    launchOf barCells xferCells (toksB ∪ toksT))

set_option backward.isDefEq.respectTransparency.types false in
/-- From any memory and counters at zero, every run ends with the arguments as they were, the result `res` and every counter at zero. -/
theorem run_main : θ_run defs (onTc (τ := τ) (main (F := F))) ⟨m, fun _ => 0, ρ⟩
    (fun r => (∀ c : Dev nD, (r.2.mem ((c : Thread nD τ).loc main_arg0) = V₁ m c main_arg0 ∧ r.2.mem ((c : Thread nD τ).loc main_arg1) = V₁ m c main_arg1
        ∧ r.2.mem ((c : Thread nD τ).loc main_arg2) = V₁ m c main_arg2) ∧ r.2.mem ((c : Thread nD τ).loc main_v4) = res m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := pool) (u₀ := u₀ (F := F))
    (hu₀ := by
      unfold u₀
      iintro Hu
      ihave H := (ownU_pair _ _) $$ Hu
      icases H with ⟨HP, HX⟩
      imodintro
      isplitl [HP]; · iexact HP
      iapply (pool_give (F := F)); iexact HX)
    (T₀ := T₀ m) (Tₙ := fine m)
    (hch := by
      refine ⟨fun c => .rfl, fun c => .rfl, fun c => ?_⟩
      exact BI.Entails.refl _)
    (hinit := init m ρ)
    (QY := fun c s => ((s.mem ((c : Thread nD τ).loc main_arg0) = V₁ m c main_arg0 ∧ s.mem ((c : Thread nD τ).loc main_arg1) = V₁ m c main_arg1
        ∧ s.mem ((c : Thread nD τ).loc main_arg2) = V₁ m c main_arg2) ∧ s.mem ((c : Thread nD τ).loc main_v4) = res m c) ∧ s.sem (barCell c) = 0)
    (hfin := fun c s' => by
      unfold fine
      iintro ⟨⟨⟨H0, H1, H2⟩, H4, Hb⟩, HSI⟩
      icombine HSI H0 gives %h0
      icombine HSI H1 gives %h1
      icombine HSI H2 gives %h2
      icombine HSI H4 gives %h4
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ h4⟩, hb⟩
      iexact HSI)
    (hQ := fun s h hs => ⟨fun c => (h c).1, sem_eq_zero hs fun c sm hsm => by
      have hl : ∀ sm : SemLoc sig, sm.isScoped .tc = false → sm = .reg barS := by decide
      rw [hl sm hsm]
      exact (h c).2⟩)

end Cert.KernelRun

end
-- ==== Proof.Same.lean ====
/- The kernel and the kernel read over the extended reals are one program, so one proof serves both. -/
module

public import proofs.«01_k».proof.Proof.Run
public import proofs.«01_k».proof.Proof.Gen.Kernel.Launch
public import proofs.«01_k».proof.Defs

@[expose] public section

noncomputable section

namespace Cert.KernelRun

open Idealize.ShloMosaic Idealize.SL.Sem Idealize.ShloMosaic.TcCoe

variable {F : FTy → Type} [FloatOps F]

/-- The run's first claim, for a memory and arguments. -/
theorem quiet (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun r h => ⟨fun c => ⟨(h.1 c).1.1.trans (V₁_arg0 m c), (h.1 c).1.2.1.trans (V₁_arg1 m c), (h.1 c).1.2.2.trans (V₁_arg2 m c)⟩, h.2⟩) (run_main m g)

set_option maxRecDepth 65536 in
theorem same :
    (∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) =
    (∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)) := by
  chain_rfl

end Cert.KernelRun

end
-- ==== Proof.Value.lean ====
/-
# The value

Over the extended reals every row of the result is the plain sum, over the eight devices, of the devices' shares of
that row; and the reference's row is the same sum, its inner axis cut into the eight devices' parts.
-/
module

public import proofs.«01_k».proof.Proof.Rows
public import Idealize.ShloMosaic.Lib.MatmulPlain
public import Idealize.ShloMosaic.Lib.StackMember
public import Idealize.ShloMosaic.Lib.IdealHost
public import Idealize.ShloMosaic.Lib.Layout
public import proofs.«01_k».proof.Proof.Gen.ReferenceIdeal.Run
@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-! ## One row of the two products -/

/-- `h / (1 + e^(-h))`. -/
def silu (h : EReal) : EReal := Ideal.div h (1 + Ideal.exp (-h))

theorem exp_nonneg (h : EReal) : 0 ≤ Ideal.exp h := by
  induction h using EReal.rec with
  | bot => exact le_refl _
  | top => exact le_top
  | coe r => exact EReal.coe_nonneg.mpr (Real.exp_pos r).le

/-- A product with the logistic function is the quotient. -/
theorem mul_logistic (h : EReal) : h * Ideal.logistic h = silu h := by
  have hne : (1 : EReal) + Ideal.exp (-h) ≠ 0 := by
    have h0 : (1 : EReal) ≤ 1 + Ideal.exp (-h) := le_add_of_nonneg_right (exp_nonneg _)
    exact (lt_of_lt_of_le zero_lt_one h0).ne'
  unfold silu Ideal.logistic Ideal.div
  rw [if_neg hne, if_neg hne, one_mul]

/-- A row `x` through both products, over `K` inner positions, at column `k`. -/
def mlp {K : ℕ} (x : Fin 512 → EReal) (w1 : (⟨2, ![512, K]⟩ : Shape).Idx → EReal) (w2 : (⟨2, ![K, 512]⟩ : Shape).Idx → EReal) (k : Fin 512) : EReal :=
  ∑ q : Fin K, silu (∑ e : Fin 512, x e * w1 (ix2 e q)) * w2 (ix2 q k)

/-- A kernel's product onto a zero accumulator, at an index. -/
theorem prod_at {n M K : ℕ} {φ₁ φ₂ : FTy} (l : FVec Ideal ⟨2, ![n, M]⟩ φ₁) (r : FVec Ideal ⟨2, ![M, K]⟩ φ₂) (p : Fin n) (q : Fin K) :
    matmul (DotDims.plain n M K) none l r (constant ⟨2, ![n, K]⟩ .f32 0x00000000#32) (ix2 p q) = ∑ e : Fin M, l (ix2 p e) * r (ix2 e q) := by
  refine (Ideal.matmul_plain_apply none l r (constant ⟨2, ![n, K]⟩ .f32 0x00000000#32) p q).trans ?_
  refine Eq.trans (congrArg (· + _) (Ideal.ofBits_zero_f32)) ?_
  exact zero_add _

/-- A share of `n` rows, at an index. -/
theorem share_at {n K : ℕ} (x : FVec Ideal ⟨2, ![n, 512]⟩ .bf16) (w1 : FVec Ideal ⟨2, ![512, K]⟩ .bf16) (w2 : FVec Ideal ⟨2, ![K, 512]⟩ .bf16) (p : Fin n) (k : Fin 512) :
    matmul (DotDims.plain n K 512) none
      (truncf .bf16 (mulf (matmul (DotDims.plain n 512 K) none x w1 (constant ⟨2, ![n, K]⟩ .f32 0x00000000#32))
        (logistic (matmul (DotDims.plain n 512 K) none x w1 (constant ⟨2, ![n, K]⟩ .f32 0x00000000#32)))) bitsLt_bf16_f32 : FVec Ideal ⟨2, ![n, K]⟩ .bf16)
      w2 (constant ⟨2, ![n, 512]⟩ .f32 0x00000000#32) (ix2 p k) = mlp (fun e => x (ix2 p e)) w1 w2 k := by
  refine (prod_at _ w2 p k).trans (Finset.sum_congr rfl fun q _ => ?_)
  refine congrArg (· * w2 (ix2 q k)) ?_
  refine Eq.trans ?_ (congrArg silu (prod_at x w1 p q))
  exact mul_logistic _

/-- A cast of the weights to their own shapes changes no share. -/
theorem mlp_cast {K : ℕ} (x : Fin 512 → EReal) (w1 : (⟨2, ![512, K]⟩ : Shape).Idx → EReal) (w2 : (⟨2, ![K, 512]⟩ : Shape).Idx → EReal) (h1) (h2) (k : Fin 512) :
    mlp x (shapeCast ⟨2, ![512, K]⟩ w1 h1) (shapeCast ⟨2, ![K, 512]⟩ w2 h2) k = mlp x w1 w2 k :=
  congrArg₂ (fun a b => mlp x a b k) (shapeCast_self w1 h1) (shapeCast_self w2 h2)

theorem con_at (x : FVec Ideal S128x512 .bf16) (w1 : Vec Ideal S512x2048 .bf16) (w2 : Vec Ideal S2048x512 .bf16) (p : Fin 128) (k : Fin 512) :
    con x w1 w2 (ix2 p k) = mlp (fun e => x (ix2 p e)) w1 w2 k :=
  (share_at x _ _ p k).trans (mlp_cast (K := 2048) _ w1 w2 shapeCasts_S512x2048_S512x2048 shapeCasts_S2048x512_S2048x512 k)

theorem con2_at (x : Vec Ideal S256x512 .bf16) (w1 : Vec Ideal S512x2048 .bf16) (w2 : Vec Ideal S2048x512 .bf16) (p : Fin 256) (k : Fin 512) :
    con2 x w1 w2 (ix2 p k) = mlp (fun e => x (ix2 p e)) w1 w2 k :=
  (share_at (n := 256) _ _ _ p k).trans ((mlp_cast (K := 2048) _ w1 w2 shapeCasts_S512x2048_S512x2048 shapeCasts_S2048x512_S2048x512 k).trans
    (congrArg (fun y : Vec Ideal S256x512 .bf16 => mlp (fun e => y (ix2 p e)) w1 w2 k) (shapeCast_self x shapeCasts_S256x512_S256x512)))

/-! ## The sums that travel -/

variable (I : Inp Ideal)

/-- Device `c`'s share of row `r` of device `d`. -/
def part' (c d : Dev nD) (r k : Fin 512) : EReal := mlp (fun e => I.x d (ix2 r e)) (I.w1 c) (I.w2 c) k

theorem sh_at (j : Fin 4) (c d : Dev nD) (p : Fin 128) (k : Fin 512) : sh I j c d (ix2 p k) = part' I c d (at' j p) k :=
  (con_at _ _ _ p k).trans (congrArg (fun x => mlp x (I.w1 c) (I.w2 c) k) (funext fun e => X_at I j d p e))

theorem own_at (c : Dev nD) (r k : Fin 512) : ownV I c r k = part' I c c r k := by
  unfold ownV
  split
  · rename_i h
    refine (con2_at _ _ _ _ k).trans (congrArg (fun x => mlp x (I.w1 c) (I.w2 c) k) (funext fun e => ?_))
    refine (half_at I c 256 _ ⟨r.val - 256, by omega⟩ e (by dsimp only; omega)).trans (congrArg (fun r => I.x c (ix2 r e)) (Fin.ext (by dsimp only; omega)))
  · rename_i h
    refine (con2_at _ _ _ _ k).trans (congrArg (fun x => mlp x (I.w1 c) (I.w2 c) k) (funext fun e => ?_))
    refine (half_at I c 0 _ ⟨r.val, by omega⟩ e (by dsimp only; omega)).trans (congrArg (fun r => I.x c (ix2 r e)) (Fin.ext (by dsimp only; omega)))

/-- A block at a distance is the sender's block at the distance less one. -/
theorem blk_back (w : Bool) (c : Dev nD) (h : ℕ) : blk w (peer (!w) c) h = blk w c (h + 1) := by
  have hc : c.val < 8 := c.isLt
  cases w
  · exact Fin.ext (show ((c.val + 7) % 8 + 8 - h % 8) % 8 = (c.val + 8 - (h + 1) % 8) % 8 by omega)
  · exact Fin.ext (show ((c.val + 1) % 8 + h) % 8 = (c.val + (h + 1)) % 8 by omega)

/-- What a stream passes on at a step: the shares of the devices it came through. -/
theorem Pv_at (j : Fin 4) (p : Fin 128) (k : Fin 512) (s : ℕ) : ∀ c : Dev nD,
    Pv I j c s (ix2 p k) = ∑ t ∈ Finset.range (s + 1), part' I ((peer (!way j))^[t] c) (blk (way j) c (s + 1)) (at' j p) k := by
  induction s with
  | zero =>
    intro c
    rw [Finset.sum_range_one]
    exact sh_at I j c _ p k
  | succ s ih =>
    intro c
    refine Eq.trans ?_ (Finset.sum_range_succ' _ _).symm
    refine Eq.trans ?_ (add_comm _ _)
    refine congrArg₂ (fun a b : EReal => a + b) (sh_at I j c _ p k) ((ih (peer (!way j) c)).trans ?_)
    exact Finset.sum_congr rfl fun t _ => congrArg (fun b => part' I ((peer (!way j))^[t + 1] c) b (at' j p) k) (blk_back (way j) c (s + 1))

/-- Eight steps round the ring meet every device once. -/
theorem all_once (w : Bool) (c : Dev nD) : Function.Bijective fun t : Fin 8 => ((peer w)^[t.val] c : Fin 8) := by
  refine Finite.injective_iff_bijective.mp ?_
  revert w c; decide

/-- **The result at an index**: the sum of all devices' shares. -/
theorem out_sum (c : Dev nD) (f : Vec Ideal S512x512 .f32) (r k : Fin 512) : outAt I c f (ix2 r k) = ∑ d : Fin 8, part' I d c r k := by
  obtain ⟨j, p, rfl⟩ := row_cases r
  refine (outAt_at I c f j p k).trans ?_
  refine (congrArg₂ (fun a b : EReal => a + b) (own_at I c _ k) (Pv_at I j p k 6 (peer (!way j) c))).trans ?_
  have e : blk (way j) (peer (!way j) c) 7 = c := by
    rw [blk_back]; revert j c; decide
  rw [e, add_comm, ← (all_once (!way j) c).sum_comp fun d => part' I d c (at' j p) k, ← Finset.sum_range fun t => part' I ((peer (!way j))^[t] c) c (at' j p) k,
    Finset.sum_range_succ' _ 7]
  rfl

/-! ## The reference -/

/-- The inner axis in eight parts. -/
theorem mlp_parts (x : Fin 512 → EReal) (w1 : (⟨2, ![512, 16384]⟩ : Shape).Idx → EReal) (w2 : (⟨2, ![16384, 512]⟩ : Shape).Idx → EReal) (k : Fin 512) :
    mlp x w1 w2 k = ∑ d : Fin 8, mlp x (Layout.block ⟨2, ![512, 2048]⟩ ⟨2, ![512, 16384]⟩ 1 8 d w1) (Layout.block ⟨2, ![2048, 512]⟩ ⟨2, ![16384, 512]⟩ 0 8 d w2) k := by
  unfold mlp
  rw [← Finset.sum_product', Finset.univ_product_univ]
  refine ((finProdFinEquiv (m := 8) (n := 2048)).sum_comp fun q : Fin 16384 => silu (∑ e : Fin 512, x e * w1 (ix2 e q)) * w2 (ix2 q k)).symm.trans
    (Finset.sum_congr rfl fun ⟨d, q⟩ _ => ?_)
  have h1 : ∀ e : Fin 512, w1 (ix2 e (finProdFinEquiv (d, q))) = Layout.block ⟨2, ![512, 2048]⟩ ⟨2, ![512, 16384]⟩ 1 8 d w1 (by decide) (ix2 e q) := fun e => by
    refine congrArg w1 (funext fun a => Fin.ext ?_)
    match a with
    | 0 => rfl
    | 1 => exact (show q.val + 2048 * d.val = d.val * 2048 + q.val by omega)
  have h2 : w2 (ix2 (finProdFinEquiv (d, q)) k) = Layout.block ⟨2, ![2048, 512]⟩ ⟨2, ![16384, 512]⟩ 0 8 d w2 (by decide) (ix2 q k) := by
    refine congrArg w2 (funext fun a => Fin.ext ?_)
    match a with
    | 0 => exact (show q.val + 2048 * d.val = d.val * 2048 + q.val by omega)
    | 1 => rfl
  exact congrArg₂ (fun a b => silu a * b) (Finset.sum_congr rfl fun e _ => congrArg (x e * ·) (h1 e)) h2

/-- The reference's result. -/
def refOut (x : FVec Ideal Cert.ReferenceIdeal.S4096x512 .f32) (w1 : FVec Ideal Cert.ReferenceIdeal.S512x16384 .f32) (w2 : FVec Ideal Cert.ReferenceIdeal.S16384x512 .f32) :
    FVec Ideal Cert.ReferenceIdeal.S4096x512 .f32 :=
  Host.dotGeneral Cert.ReferenceIdeal.dot_S4096x16384_S16384x512_S4096x512_1_0_0_1_n_n none
    (Host.divf (Host.dotGeneral Cert.ReferenceIdeal.dot_S4096x512_S512x16384_S4096x16384_1_0_0_1_n_n none x w1)
      (addf (broadcastInDim Cert.ReferenceIdeal.S4096x16384 ![] Cert.ReferenceIdeal.Gen.bcast_S_S4096x16384 (constant Cert.ReferenceIdeal.S_ .f32 0x3F800000#32))
        (Host.exp (Host.negf (Host.dotGeneral Cert.ReferenceIdeal.dot_S4096x512_S512x16384_S4096x16384_1_0_0_1_n_n none x w1))))) w2

theorem ref_at (x) (w1) (w2) (r : Fin 4096) (k : Fin 512) : refOut x w1 w2 (ix2 r k) = mlp (K := 16384) (fun e => x (ix2 r e)) w1 w2 k := by
  refine (StackMember.dotGeneral_plain_apply (m := 4096) (k := 16384) (n := 512) none _ w2 r k).trans (Finset.sum_congr rfl fun q _ => congrArg (· * w2 (ix2 q k)) ?_)
  have e := StackMember.dotGeneral_plain_apply (m := 4096) (k := 512) (n := 16384) none x w1 r q
  exact (congrArg₂ (fun a b : EReal => Ideal.div a (b + Ideal.exp (-a))) e Ideal.ofBits_one_f32)

/-- **A block of the reference's result is the kernel's**, where the kernel's inputs are the blocks of the reference's. -/
theorem out_block (x : FVec Ideal Cert.ReferenceIdeal.S4096x512 .f32) (w1 : FVec Ideal Cert.ReferenceIdeal.S512x16384 .f32) (w2 : FVec Ideal Cert.ReferenceIdeal.S16384x512 .f32)
    (hx : ∀ c : Dev nD, I.x c = Layout.block ⟨2, ![512, 512]⟩ ⟨2, ![4096, 512]⟩ 0 8 c x)
    (h1 : ∀ c : Dev nD, I.w1 c = Layout.block ⟨2, ![512, 2048]⟩ ⟨2, ![512, 16384]⟩ 1 8 c w1)
    (h2 : ∀ c : Dev nD, I.w2 c = Layout.block ⟨2, ![2048, 512]⟩ ⟨2, ![16384, 512]⟩ 0 8 c w2) (c : Dev nD) (f : Vec Ideal S512x512 .f32) :
    outAt I c f = Layout.block ⟨2, ![512, 512]⟩ ⟨2, ![4096, 512]⟩ 0 8 c (refOut x w1 w2) := by
  funext i
  obtain ⟨r, k, rfl⟩ : ∃ r k, i = ix2 r k := ⟨i 0, i 1, eq_ix2 i⟩
  have hc : c.val < 8 := c.isLt
  have hr := r.isLt
  have hb : ∀ (v : FVec Ideal Cert.ReferenceIdeal.S4096x512 .f32) (k : Fin 512), Layout.block ⟨2, ![512, 512]⟩ ⟨2, ![4096, 512]⟩ 0 8 c v (by decide) (ix2 r k)
      = v (ix2 ⟨c.val * 512 + r.val, by omega⟩ k) := fun v k => congrArg v (funext fun a => Fin.ext (match a with | 0 => rfl | 1 => rfl))
  refine (out_sum I c f r k).trans (Eq.symm ?_)
  refine (hb _ k).trans ((ref_at x w1 w2 _ k).trans ((mlp_parts _ w1 w2 k).trans (Finset.sum_congr rfl fun d _ => ?_)))
  unfold part'
  rw [hx c, h1 d, h2 d]
  exact congrArg (fun y => mlp y _ _ k) (funext fun e => (hb x e).symm)

end Cert.KernelRun

end
-- ==== Proof.Clip.lean ====
/-
# The clip

reference.py clips the exponent's argument to [-60, 60]. Where no row of `x` has a sum of squares above 1800 and no
column of `W1` one above 2, the argument is within the clip (Cauchy and Schwarz: 1800 · 2 = 60²), and the clip does
nothing.
-/
module

public import proofs.«01_k».proof.Defs
public import proofs.«01_k».proof.Proof.Value
public import proofs.«01_k».proof.Proof.Gen.ClippedIdeal.Run
public import proofs.«01_k».proof.Proof.Gen.Pre_within_clip_KernelIdeal
public import Mathlib.Algebra.Order.BigOperators.Ring.Finset
@[expose] public section

noncomputable section

namespace Cert.KernelRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-! ## The bound -/

theorem coe_total {n : ℕ} (f : Fin n → ℝ) : ((∑ e, f e : ℝ) : EReal) = ∑ e, (f e : EReal) := by
  classical
  refine Finset.induction_on (motive := fun s => ((∑ e ∈ s, f e : ℝ) : EReal) = ∑ e ∈ s, (f e : EReal)) Finset.univ rfl fun a s ha ih => ?_
  rw [Finset.sum_insert ha, Finset.sum_insert ha, EReal.coe_add, ih]

theorem square_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- Of a bounded sum of squares every term is real. -/
theorem real_of_squares {n : ℕ} (x : Fin n → EReal) (B : ℝ) (h : ∑ e, x e * x e ≤ (B : EReal)) : ∃ a : Fin n → ℝ, x = fun e => (a e : EReal) := by
  have hx : ∀ e, x e ≠ ⊤ ∧ x e ≠ ⊥ := fun e => by
    have h1 : x e * x e ≤ (B : EReal) := (Finset.single_le_sum (f := fun e => x e * x e) (fun i _ => square_nonneg (x i)) (Finset.mem_univ e)).trans h
    refine ⟨fun h2 => ?_, fun h2 => ?_⟩ <;> rw [h2] at h1
    · rw [EReal.top_mul_top] at h1; exact EReal.coe_ne_top B (top_le_iff.mp h1)
    · rw [EReal.bot_mul_bot] at h1; exact EReal.coe_ne_top B (top_le_iff.mp h1)
  exact ⟨fun e => (x e).toReal, funext fun e => (EReal.coe_toReal (hx e).1 (hx e).2).symm⟩

theorem within {n : ℕ} (x w : Fin n → EReal) (hx : ∑ e, x e * x e ≤ ((1800 : ℝ) : EReal)) (hw : ∑ e, w e * w e ≤ ((2 : ℝ) : EReal)) :
    ((-60 : ℝ) : EReal) ≤ ∑ e, x e * w e ∧ ∑ e, x e * w e ≤ ((60 : ℝ) : EReal) := by
  obtain ⟨a, rfl⟩ := real_of_squares x _ hx
  obtain ⟨b, rfl⟩ := real_of_squares w _ hw
  have ea : ∀ f g : Fin n → ℝ, ∑ e, (f e : EReal) * (g e : EReal) = ((∑ e, f e * g e : ℝ) : EReal) := fun f g =>
    (Finset.sum_congr rfl fun e _ => (EReal.coe_mul (f e) (g e)).symm).trans (coe_total fun e => f e * g e).symm
  rw [ea] at hx hw ⊢
  have hx' := EReal.coe_le_coe_iff.mp hx
  have hw' := EReal.coe_le_coe_iff.mp hw
  have hs := Finset.sum_mul_sq_le_sq_mul_sq Finset.univ a b
  have h0 : (0 : ℝ) ≤ ∑ e, b e * b e := Finset.sum_nonneg fun e _ => mul_self_nonneg (b e)
  have hq : (∑ e, a e * b e) ^ 2 ≤ 60 ^ 2 := by
    simp only [pow_two (a _), pow_two (b _)] at hs
    refine hs.trans ((mul_le_mul hx' hw' h0 (by norm_num)).trans (by norm_num))
  have hb := abs_le_of_sq_le_sq' hq (by norm_num)
  exact ⟨EReal.coe_le_coe_iff.mpr hb.1, EReal.coe_le_coe_iff.mpr hb.2⟩

/-! ## The reference with the clip -/

/-- Its result. -/
def clipOut (x : FVec Ideal Cert.ReferenceIdeal.S4096x512 .f32) (w1 : FVec Ideal Cert.ReferenceIdeal.S512x16384 .f32) (w2 : FVec Ideal Cert.ReferenceIdeal.S16384x512 .f32) :
    FVec Ideal Cert.ReferenceIdeal.S4096x512 .f32 :=
  Host.dotGeneral Cert.ReferenceIdeal.dot_S4096x16384_S16384x512_S4096x512_1_0_0_1_n_n none
    (Host.divf (Host.dotGeneral Cert.ReferenceIdeal.dot_S4096x512_S512x16384_S4096x16384_1_0_0_1_n_n none x w1)
      (addf (broadcastInDim Cert.ReferenceIdeal.S4096x16384 ![] Cert.ReferenceIdeal.Gen.bcast_S_S4096x16384 (constant Cert.ReferenceIdeal.S_ .f32 0x3F800000#32))
        (Host.exp (Host.negf (minimumf
          (broadcastInDim Cert.ReferenceIdeal.S4096x16384 ![] Cert.ReferenceIdeal.Gen.bcast_S_S4096x16384 (sitofp .f32 (constantI Cert.ReferenceIdeal.S_ 32 60#32)))
          (maximumf (broadcastInDim Cert.ReferenceIdeal.S4096x16384 ![] Cert.ReferenceIdeal.Gen.bcast_S_S4096x16384 (sitofp .f32 (constantI Cert.ReferenceIdeal.S_ 32 4294967236#32)))
            (Host.dotGeneral Cert.ReferenceIdeal.dot_S4096x512_S512x16384_S4096x16384_1_0_0_1_n_n none x w1))))))) w2

/-- Within the bounds the clip does nothing. -/
theorem clip_ref (x : FVec Ideal Cert.ReferenceIdeal.S4096x512 .f32) (w1 : FVec Ideal Cert.ReferenceIdeal.S512x16384 .f32) (w2 : FVec Ideal Cert.ReferenceIdeal.S16384x512 .f32)
    (hx : ∀ r : Fin 4096, ∑ e : Fin 512, x (ix2 r e) * x (ix2 r e) ≤ ((1800 : ℝ) : EReal))
    (hw : ∀ q : Fin 16384, ∑ e : Fin 512, w1 (ix2 e q) * w1 (ix2 e q) ≤ ((2 : ℝ) : EReal)) : clipOut x w1 w2 = refOut x w1 w2 := by
  unfold clipOut refOut
  refine congrArg (fun y => Host.dotGeneral Cert.ReferenceIdeal.dot_S4096x16384_S16384x512_S4096x512_1_0_0_1_n_n none
    (Host.divf (Host.dotGeneral Cert.ReferenceIdeal.dot_S4096x512_S512x16384_S4096x16384_1_0_0_1_n_n none x w1)
      (addf (broadcastInDim Cert.ReferenceIdeal.S4096x16384 ![] Cert.ReferenceIdeal.Gen.bcast_S_S4096x16384 (constant Cert.ReferenceIdeal.S_ .f32 0x3F800000#32))
        (Host.exp (Host.negf y)))) w2) (funext fun i => ?_)
  obtain ⟨r, q, rfl⟩ : ∃ r q, i = ix2 r q := ⟨i 0, i 1, eq_ix2 i⟩
  have e : Host.dotGeneral (DotDims.plain 4096 512 16384) none x w1 (ix2 r q) = ∑ e : Fin 512, x (ix2 r e) * w1 (ix2 e q) :=
    StackMember.dotGeneral_plain_apply (m := 4096) (k := 512) (n := 16384) none x w1 r q
  obtain ⟨h1, h2⟩ := within (fun e => x (ix2 r e)) (fun e => w1 (ix2 e q)) (hx r) (hw q)
  have c1 : (((60#32 : BitVec 32).toInt : ℝ) : EReal) = ((60 : ℝ) : EReal) := congrArg Real.toEReal (by rw [show (60#32 : BitVec 32).toInt = 60 by decide]; norm_num)
  have c2 : (((4294967236#32 : BitVec 32).toInt : ℝ) : EReal) = ((-60 : ℝ) : EReal) := congrArg Real.toEReal (by rw [show (4294967236#32 : BitVec 32).toInt = -60 by decide]; norm_num)
  show min (((60#32 : BitVec 32).toInt : ℝ) : EReal) (max (((4294967236#32 : BitVec 32).toInt : ℝ) : EReal)
    (Host.dotGeneral (DotDims.plain 4096 512 16384) none x w1 (ix2 r q))) = Host.dotGeneral (DotDims.plain 4096 512 16384) none x w1 (ix2 r q)
  rw [c1, c2, e, max_eq_right h1, min_eq_right h2]

/-! ## The precondition -/

theorem bits_1800 : Ideal.ofBits .f32 0x44E10000#32 = ((1800 : ℝ) : EReal) := by
  simp [Ideal.ofBits, Ideal.ieee, -EReal.coe_mul]; norm_num

theorem bits_2 : Ideal.ofBits .f32 0x40000000#32 = ((2 : ℝ) : EReal) := by
  simp [Ideal.ofBits, Ideal.ieee, -EReal.coe_mul]; norm_num

theorem le_of_cmp {a b : EReal} (h : Ideal.cmp .ole a b = 1#1) : a ≤ b := by
  by_contra hn
  have : Ideal.cmp .ole a b = 0#1 := by unfold Ideal.cmp; rw [decide_eq_false hn]; rfl
  rw [this] at h; exact absurd h (by decide)

/-- A host's sum along an axis from zero, at an index. -/
theorem total_at {s t : Shape} {a : Fin s.rank} (x : FVec Ideal s .f32) (h' : s.ReducesTo [a] t) (h : s.Reduces [a] t) (hu) (j : t.Idx) :
    Host.reduceAdd x (constant ⟨0, ![]⟩ .f32 0x00000000#32) h' hu j = ∑ k : Fin (s.size a), x (h.lift j k) := by
  refine (ValueIdx.hostReduceAdd_apply x _ h' hu j).trans ((Ideal.hostReduceAdd_single h' h x _ j).trans ?_)
  refine Eq.trans (congrArg (· + _) Ideal.ofBits_zero_f32) (zero_add _)

/-- What the precondition says of a device's blocks. -/
theorem pre_read (x : FVec Ideal S512x512 .f32) (w1 : FVec Ideal S512x2048 .f32) (w2 : FVec Ideal S2048x512 .f32)
    (h : (Cert.Pre_within_clip_KernelIdeal.fn (F := Ideal) x w1 w2).1 = (fun _ => 1#1) ∧ (Cert.Pre_within_clip_KernelIdeal.fn (F := Ideal) x w1 w2).2 = (fun _ => 1#1)) :
    (∀ r : Fin 512, ∑ e : Fin 512, x (ix2 r e) * x (ix2 r e) ≤ ((1800 : ℝ) : EReal))
      ∧ (∀ q : Fin 2048, ∑ e : Fin 512, w1 (ix2 e q) * w1 (ix2 e q) ≤ ((2 : ℝ) : EReal)) := by
  refine ⟨fun r => ?_, fun q => ?_⟩
  · have h1 := le_of_cmp (congrFun h.1 (ix1 r))
    have hR : Cert.Pre_within_clip_KernelIdeal.S512x512.Reduces [1] Cert.Pre_within_clip_KernelIdeal.S512 := by decide
    have e := total_at (mulf x x) Cert.Pre_within_clip_KernelIdeal.Gen.reducesTo_S512x512_S512_d1 hR Cert.Pre_within_clip_KernelIdeal.Gen.h_S_ (ix1 r)
    refine Eq.trans_le ?_ ((e.symm.le.trans h1).trans bits_1800.le)
    refine Finset.sum_congr rfl fun k _ => ?_
    have hl : hR.lift (ix1 r) k = ix2 r k := funext fun a => Fin.ext (match a with | 0 => rfl | 1 => rfl)
    exact congrArg (fun i => x i * x i) hl.symm
  · have h1 := le_of_cmp (congrFun h.2 (ix1 q))
    have hR : Cert.Pre_within_clip_KernelIdeal.S512x2048.Reduces [0] Cert.Pre_within_clip_KernelIdeal.S2048 := by decide
    have e := total_at (mulf w1 w1) Cert.Pre_within_clip_KernelIdeal.Gen.reducesTo_S512x2048_S2048_d0 hR Cert.Pre_within_clip_KernelIdeal.Gen.h_S_ (ix1 q)
    refine Eq.trans_le ?_ ((e.symm.le.trans h1).trans bits_2.le)
    refine Finset.sum_congr rfl fun k _ => ?_
    have hl : hR.lift (ix1 q) k = ix2 k q := funext fun a => Fin.ext (match a with | 0 => rfl | 1 => rfl)
    exact congrArg (fun i => w1 i * w1 i) hl.symm

/-- The blocks' bounds are the whole arrays'. -/
theorem clip_blocks (x : FVec Ideal Cert.ReferenceIdeal.S4096x512 .f32) (w1 : FVec Ideal Cert.ReferenceIdeal.S512x16384 .f32) (w2 : FVec Ideal Cert.ReferenceIdeal.S16384x512 .f32)
    (hx : ∀ (c : Fin 8) (r : Fin 512), ∑ e : Fin 512, Layout.block ⟨2, ![512, 512]⟩ ⟨2, ![4096, 512]⟩ 0 8 c x (by decide) (ix2 r e)
      * Layout.block ⟨2, ![512, 512]⟩ ⟨2, ![4096, 512]⟩ 0 8 c x (by decide) (ix2 r e) ≤ ((1800 : ℝ) : EReal))
    (hw : ∀ (c : Fin 8) (q : Fin 2048), ∑ e : Fin 512, Layout.block ⟨2, ![512, 2048]⟩ ⟨2, ![512, 16384]⟩ 1 8 c w1 (by decide) (ix2 e q)
      * Layout.block ⟨2, ![512, 2048]⟩ ⟨2, ![512, 16384]⟩ 1 8 c w1 (by decide) (ix2 e q) ≤ ((2 : ℝ) : EReal)) :
    clipOut x w1 w2 = refOut x w1 w2 := by
  refine clip_ref x w1 w2 (fun r => ?_) (fun q => ?_)
  · have hr := r.isLt
    refine Eq.trans_le (Finset.sum_congr rfl fun e _ => ?_) (hx ⟨r.val / 512, by omega⟩ ⟨r.val % 512, by omega⟩)
    refine congrArg (fun i => x i * x i) (funext fun a => Fin.ext ?_)
    match a with
    | 0 => exact (show r.val = r.val / 512 * 512 + r.val % 512 by omega)
    | 1 => rfl
  · have hq := q.isLt
    refine Eq.trans_le (Finset.sum_congr rfl fun e _ => ?_) (hw ⟨q.val / 2048, by omega⟩ ⟨q.val % 2048, by omega⟩)
    refine congrArg (fun i => w1 i * w1 i) (funext fun a => Fin.ext ?_)
    match a with
    | 0 => rfl
    | 1 => exact (show q.val = q.val / 2048 * 2048 + q.val % 2048 by omega)

end Cert.KernelRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_within_clip_KernelIdeal
public import proofs.«01_k».proof.Proof.Gen.Pre_within_clip_ClippedIdeal
public import proofs.«01_k».proof.Proof.Same
public import proofs.«01_k».proof.Proof.Value
public import proofs.«01_k».proof.Proof.Clip
public import Idealize.ShloMosaic.Adequacy
public import Idealize.ShloMosaic.Init

@[expose] public section

noncomputable section

namespace Cert.Proof

open Idealize.ShloMosaic Idealize.SL.Sem Cert.Kernel

/-- The reference has no semaphore to leave at other than zero. -/
theorem reference_quiet : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Each device's result is its block of the reference's. -/
theorem value : Cert.algebraic_KernelIdeal_ReferenceIdeal (hKernelIdeal := Cert.KernelIdeal.Gen.facts) (hReferenceIdeal := Cert.ReferenceIdeal.Gen.facts) := by
  intro m g m' g' _ hagree
  refine ⟨_, (θ_run _ _ _).mono (fun r h c => ⟨(h.1 c).2.trans ?_, (h.1 c).1.1.trans (Cert.KernelRun.V₁_arg0 m c), (h.1 c).1.2.1.trans (Cert.KernelRun.V₁_arg1 m c),
      (h.1 c).1.2.2.trans (Cert.KernelRun.V₁_arg2 m c)⟩) (Cert.KernelRun.run_main m g),
    (θ_run _ _ _).mono (fun r h => h 0) (Cert.ReferenceIdeal.Value.run m' g')⟩
  exact Cert.KernelRun.out_block (Cert.KernelRun.inpOf m) _ _ _
    (fun c => (Cert.KernelRun.inp_x m c).trans (hagree c).1)
    (fun c => (Cert.KernelRun.inp_w1 m c).trans (hagree c).2.1)
    (fun c => (Cert.KernelRun.inp_w2 m c).trans (hagree c).2.2) c _

/-- The clipped reference has none either. -/
theorem clipped_quiet (m : (ℓ : Loc Cert.ClippedIdeal.nD Cert.ClippedIdeal.τ Cert.ClippedIdeal.sig) → Buf (Elt Ideal) ℓ) (g : Dev Cert.ClippedIdeal.nD → PrngReg) :
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2))
      ∧ r.2.sem = fun _ => 0) :=
  (θ_run _ _ _).mono (fun r h => ⟨fun c => (h c).2, sem_eq_zero_of_no_sems (by decide) r.2⟩) (Cert.ClippedIdeal.Value.run m g)

/-- Under the precondition each device's result is its block of the clipped reference's. -/
theorem clipped_value : Cert.algebraic_KernelIdeal_ClippedIdeal_pre_within_clip_KernelIdeal (hKernelIdeal := Cert.KernelIdeal.Gen.facts)
    (hClippedIdeal := Cert.ClippedIdeal.Gen.facts) (hPre_within_clip_KernelIdeal := Cert.Pre_within_clip_KernelIdeal.Gen.facts) := by
  intro m g m' g' hpre hagree
  refine ⟨_, (θ_run _ _ _).mono (fun r h c => ⟨(h.1 c).2.trans ?_, (h.1 c).1.1.trans (Cert.KernelRun.V₁_arg0 m c), (h.1 c).1.2.1.trans (Cert.KernelRun.V₁_arg1 m c),
      (h.1 c).1.2.2.trans (Cert.KernelRun.V₁_arg2 m c)⟩) (Cert.KernelRun.run_main m g),
    (θ_run _ _ _).mono (fun r h => h 0) (Cert.ClippedIdeal.Value.run m' g')⟩
  have hb := fun c => Cert.KernelRun.pre_read _ _ _ (hpre c)
  have hc := Cert.KernelRun.clip_blocks _ _ (m' (((0 : Dev Cert.ClippedIdeal.nD).tc : Thread Cert.ClippedIdeal.nD Cert.ClippedIdeal.τ).loc Cert.ClippedIdeal.main_arg2))
    (fun c => (hagree c).1 ▸ (hb c).1) (fun c => (hagree c).2.1 ▸ (hb c).2)
  exact (Cert.KernelRun.out_block (Cert.KernelRun.inpOf m) _ _ _
    (fun c => (Cert.KernelRun.inp_x m c).trans (hagree c).1)
    (fun c => (Cert.KernelRun.inp_w1 m c).trans (hagree c).2.1)
    (fun c => (Cert.KernelRun.inp_w2 m c).trans (hagree c).2.2) c _).trans
    (congrArg (fun v => Layout.block ⟨2, ![512, 512]⟩ ⟨2, ![4096, 512]⟩ 0 8 c v (by decide)) hc.symm)

theorem claim : Cert.Claim := ⟨Cert.Kernel.Gen.facts, Cert.KernelIdeal.Gen.facts, Cert.ReferenceIdeal.Gen.facts, Cert.ClippedIdeal.Gen.facts,
  Cert.Pre_within_clip_KernelIdeal.Gen.facts, Cert.Pre_within_clip_ClippedIdeal.Gen.facts,
  fun m g _ => cast (Cert.KernelRun.same (F := Bits)) (Cert.KernelRun.quiet (F := Bits)) m g,
  fun m g _ => Cert.KernelRun.quiet m g, fun m g _ => Cert.KernelRun.quiet m g, reference_quiet,
  fun m g _ => clipped_quiet m g, fun m g _ => clipped_quiet m g, trivial, value, clipped_value⟩

end Cert.Proof

end
